-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_rows_and_labels [hPre_finite_rows_and_labels : Cert.Pre_finite_rows_and_labels.Facts] (m : (ℓ : Loc Cert.KernelIdeal.nD Cert.KernelIdeal.τ Cert.KernelIdeal.sig) → Buf (Elt Ideal) ℓ) : Prop :=
  ∀ c : Dev Cert.KernelIdeal.nD,
    (Cert.Pre_finite_rows_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_rows_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_rows_and_labels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_rows_and_labels [hPre_finite_rows_and_labels : Cert.Pre_finite_rows_and_labels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_rows_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_rows_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_rows_and_labels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_rows_and_labels [hKernelIdeal : Cert.KernelIdeal.Facts] [hPre_finite_rows_and_labels : Cert.Pre_finite_rows_and_labels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_rows_and_labels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_rows_and_labels [hReferenceIdeal : Cert.ReferenceIdeal.Facts] [hPre_finite_rows_and_labels : Cert.Pre_finite_rows_and_labels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_rows_and_labels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "reg_scale" .f32 0x38B32EB8#32 ((1 / 11704 : ℝ) : EReal)

def algebraic_KernelIdeal_ReferenceIdeal_pre_finite_rows_and_labels [hKernelIdeal : Cert.KernelIdeal.Facts] [hReferenceIdeal : Cert.ReferenceIdeal.Facts] [hPre_finite_rows_and_labels : Cert.Pre_finite_rows_and_labels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_rows_and_labels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_rows_and_labels : Cert.Pre_finite_rows_and_labels.Facts),
    quiescent_Kernel (hKernel := hKernel)
    ∧ quiescent_KernelIdeal (hKernelIdeal := hKernelIdeal)
    ∧ quiescent_KernelIdeal_pre_finite_rows_and_labels (hKernelIdeal := hKernelIdeal) (hPre_finite_rows_and_labels := hPre_finite_rows_and_labels)
    ∧ quiescent_ReferenceIdeal (hReferenceIdeal := hReferenceIdeal)
    ∧ quiescent_ReferenceIdeal_pre_finite_rows_and_labels (hReferenceIdeal := hReferenceIdeal) (hPre_finite_rows_and_labels := hPre_finite_rows_and_labels)
    ∧ preserves_Kernel_KernelIdeal
    ∧ algebraic_KernelIdeal_ReferenceIdeal_pre_finite_rows_and_labels (hKernelIdeal := hKernelIdeal) (hReferenceIdeal := hReferenceIdeal) (hPre_finite_rows_and_labels := hPre_finite_rows_and_labels)
-- ==== Pre_finite_rows_and_labels.lean ====
abbrev S16384x768 : Shape := ⟨2, ![16384, 768]⟩
abbrev S77x768 : Shape := ⟨2, ![77, 768]⟩
abbrev S16384 : Shape := ⟨1, ![16384]⟩
abbrev S77 : Shape := ⟨1, ![77]⟩
abbrev S_ : Shape := ⟨0, ![]⟩

class Facts : Prop where
  bcast_S_S16384x768 : S_.BroadcastsInDim S16384x768 (![] : Fin 0 → Fin S16384x768.rank)
  bcast_S_S77x768 : S_.BroadcastsInDim S77x768 (![] : Fin 0 → Fin S77x768.rank)
  bcast_S_S16384 : S_.BroadcastsInDim S16384 (![] : Fin 0 → Fin S16384.rank)

variable [Facts]

def fn {F : FTy → Type} [FloatOps F] (main_arg0 : FVec F S16384x768 .f32) (main_arg1 : FVec F S77x768 .f32) (main_arg2 : IVec S16384 32) (main_arg3 : FVec F S16384 .f32) (main_arg4 : FVec F S16384 .f32) (main_arg5 : FVec F S77 .f32) : IVec S16384x768 1 × IVec S77x768 1 × IVec S16384 1 :=
  let main_v0 : FVec F S16384x768 .f32 := Host.absf main_arg0
  let main_cst : FVec F S_ .f32 := constant S_ .f32 0x7F800000#32
  let main_v1 : FVec F S16384x768 .f32 := broadcastInDim S16384x768 ![] bcast_S_S16384x768 main_cst
  let main_v2 : IVec S16384x768 1 := cmpf .olt main_v0 main_v1
  let main_v3 : FVec F S77x768 .f32 := Host.absf main_arg1
  let main_cst_0 : FVec F S_ .f32 := constant S_ .f32 0x7F800000#32
  let main_v4 : FVec F S77x768 .f32 := broadcastInDim S77x768 ![] bcast_S_S77x768 main_cst_0
  let main_v5 : IVec S77x768 1 := cmpf .olt main_v3 main_v4
  let main_c : IVec S_ 32 := constantI S_ 32 0#32
  let main_v6 : IVec S16384 32 := broadcastInDim S16384 ![] bcast_S_S16384 main_c
  let main_v7 : IVec S16384 1 := cmpi .sge main_arg2 main_v6
  let main_c_1 : IVec S_ 32 := constantI S_ 32 77#32
  let main_v8 : IVec S16384 32 := broadcastInDim S16384 ![] bcast_S_S16384 main_c_1
  let main_v9 : IVec S16384 1 := cmpi .slt main_arg2 main_v8
  let main_v10 : IVec S16384 1 := andi main_v7 main_v9
  (main_v2, main_v5, main_v10)
-- ==== Kernel.lean ====
abbrev S16384x768 : Shape := ⟨2, ![16384, 768]⟩
abbrev S77x768 : Shape := ⟨2, ![77, 768]⟩
abbrev S16384 : Shape := ⟨1, ![16384]⟩
abbrev S77 : Shape := ⟨1, ![77]⟩
abbrev S_ : Shape := ⟨0, ![]⟩
abbrev S128x768 : Shape := ⟨2, ![128, 768]⟩
abbrev S128 : Shape := ⟨1, ![128]⟩
abbrev S128x1 : Shape := ⟨2, ![128, 1]⟩
abbrev S8x2048x768 : Shape := ⟨3, ![8, 2048, 768]⟩
abbrev S8x4x1x512 : Shape := ⟨4, ![8, 4, 1, 512]⟩
abbrev S1x1 : Shape := ⟨2, ![1, 1]⟩
abbrev S1x512x768 : Shape := ⟨3, ![1, 512, 768]⟩
abbrev S1x1x1x512 : Shape := ⟨4, ![1, 1, 1, 512]⟩
abbrev S512x768 : Shape := ⟨2, ![512, 768]⟩
abbrev S128x512 : Shape := ⟨2, ![128, 512]⟩
abbrev S1x768 : Shape := ⟨2, ![1, 768]⟩
abbrev S1x512 : Shape := ⟨2, ![1, 512]⟩
abbrev S512 : Shape := ⟨1, ![512]⟩
abbrev S1x1x512 : Shape := ⟨3, ![1, 1, 512]⟩
abbrev S1 : Shape := ⟨1, ![1]⟩
abbrev S1x1x1 : Shape := ⟨3, ![1, 1, 1]⟩
abbrev S1x128x1 : Shape := ⟨3, ![1, 128, 1]⟩
abbrev S77x1 : Shape := ⟨2, ![77, 1]⟩

abbrev nBuf : Space → Nat
  | .hbm => 22
  | .vmem => 68
  | .smem => 0
  | _ => 0

abbrev bufTy : (tb : Table) → Fin (tcTables nBuf tb) → BufTy
  | .hbm, ⟨0, _⟩ => ⟨S16384x768, .f32⟩
  | .hbm, ⟨1, _⟩ => ⟨S77x768, .f32⟩
  | .hbm, ⟨2, _⟩ => ⟨S16384, .i32⟩
  | .hbm, ⟨3, _⟩ => ⟨S16384, .f32⟩
  | .hbm, ⟨4, _⟩ => ⟨S16384, .f32⟩
  | .hbm, ⟨5, _⟩ => ⟨S77, .f32⟩
  | .hbm, ⟨6, _⟩ => ⟨S_, .i32⟩
  | .hbm, ⟨7, _⟩ => ⟨S_, .f32⟩
  | .hbm, ⟨8, _⟩ => ⟨S128x768, .f32⟩
  | .hbm, ⟨9, _⟩ => ⟨S_, .i32⟩
  | .hbm, ⟨10, _⟩ => ⟨S_, .f32⟩
  | .hbm, ⟨11, _⟩ => ⟨S128, .f32⟩
  | .hbm, ⟨12, _⟩ => ⟨S128x1, .f32⟩
  | .hbm, ⟨13, _⟩ => ⟨S8x2048x768, .f32⟩
  | .hbm, ⟨14, _⟩ => ⟨S8x4x1x512, .i32⟩
  | .hbm, ⟨15, _⟩ => ⟨S8x4x1x512, .f32⟩
  | .hbm, ⟨16, _⟩ => ⟨S8x4x1x512, .f32⟩
  | .hbm, ⟨17, _⟩ => ⟨S1x1, .f32⟩
  | .hbm, ⟨18, _⟩ => ⟨S128x1, .f32⟩
  | .hbm, ⟨19, _⟩ => ⟨S_, .f32⟩
  | .hbm, ⟨20, _⟩ => ⟨S77x1, .f32⟩
  | .hbm, ⟨21, _⟩ => ⟨S77, .f32⟩
  | .local _ .vmem, ⟨0, _⟩ => ⟨S1x512x768, .f32⟩
  | .local _ .vmem, ⟨1, _⟩ => ⟨S1x512x768, .f32⟩
  | .local _ .vmem, ⟨2, _⟩ => ⟨S1x512x768, .f32⟩
  | .local _ .vmem, ⟨3, _⟩ => ⟨S1x512x768, .f32⟩
  | .local _ .vmem, ⟨4, _⟩ => ⟨S1x512x768, .f32⟩
  | .local _ .vmem, ⟨5, _⟩ => ⟨S1x512x768, .f32⟩
  | .local _ .vmem, ⟨6, _⟩ => ⟨S1x512x768, .f32⟩
  | .local _ .vmem, ⟨7, _⟩ => ⟨S1x512x768, .f32⟩
  | .local _ .vmem, ⟨8, _⟩ => ⟨S1x512x768, .f32⟩
  | .local _ .vmem, ⟨9, _⟩ => ⟨S1x512x768, .f32⟩
  | .local _ .vmem, ⟨10, _⟩ => ⟨S1x512x768, .f32⟩
  | .local _ .vmem, ⟨11, _⟩ => ⟨S1x512x768, .f32⟩
  | .local _ .vmem, ⟨12, _⟩ => ⟨S1x512x768, .f32⟩
  | .local _ .vmem, ⟨13, _⟩ => ⟨S1x512x768, .f32⟩
  | .local _ .vmem, ⟨14, _⟩ => ⟨S1x512x768, .f32⟩
  | .local _ .vmem, ⟨15, _⟩ => ⟨S1x512x768, .f32⟩
  | .local _ .vmem, ⟨16, _⟩ => ⟨S128x768, .f32⟩
  | .local _ .vmem, ⟨17, _⟩ => ⟨S1x1x1x512, .i32⟩
  | .local _ .vmem, ⟨18, _⟩ => ⟨S1x1x1x512, .i32⟩
  | .local _ .vmem, ⟨19, _⟩ => ⟨S1x1x1x512, .i32⟩
  | .local _ .vmem, ⟨20, _⟩ => ⟨S1x1x1x512, .i32⟩
  | .local _ .vmem, ⟨21, _⟩ => ⟨S1x1x1x512, .i32⟩
  | .local _ .vmem, ⟨22, _⟩ => ⟨S1x1x1x512, .i32⟩
  | .local _ .vmem, ⟨23, _⟩ => ⟨S1x1x1x512, .i32⟩
  | .local _ .vmem, ⟨24, _⟩ => ⟨S1x1x1x512, .i32⟩
  | .local _ .vmem, ⟨25, _⟩ => ⟨S1x1x1x512, .i32⟩
  | .local _ .vmem, ⟨26, _⟩ => ⟨S1x1x1x512, .i32⟩
  | .local _ .vmem, ⟨27, _⟩ => ⟨S1x1x1x512, .i32⟩
  | .local _ .vmem, ⟨28, _⟩ => ⟨S1x1x1x512, .i32⟩
  | .local _ .vmem, ⟨29, _⟩ => ⟨S1x1x1x512, .i32⟩
  | .local _ .vmem, ⟨30, _⟩ => ⟨S1x1x1x512, .i32⟩
  | .local _ .vmem, ⟨31, _⟩ => ⟨S1x1x1x512, .i32⟩
  | .local _ .vmem, ⟨32, _⟩ => ⟨S1x1x1x512, .i32⟩
  | .local _ .vmem, ⟨33, _⟩ => ⟨S1x1x1x512, .f32⟩
  | .local _ .vmem, ⟨34, _⟩ => ⟨S1x1x1x512, .f32⟩
  | .local _ .vmem, ⟨35, _⟩ => ⟨S1x1x1x512, .f32⟩
  | .local _ .vmem, ⟨36, _⟩ => ⟨S1x1x1x512, .f32⟩
  | .local _ .vmem, ⟨37, _⟩ => ⟨S1x1x1x512, .f32⟩
  | .local _ .vmem, ⟨38, _⟩ => ⟨S1x1x1x512, .f32⟩
  | .local _ .vmem, ⟨39, _⟩ => ⟨S1x1x1x512, .f32⟩
  | .local _ .vmem, ⟨40, _⟩ => ⟨S1x1x1x512, .f32⟩
  | .local _ .vmem, ⟨41, _⟩ => ⟨S1x1x1x512, .f32⟩
  | .local _ .vmem, ⟨42, _⟩ => ⟨S1x1x1x512, .f32⟩
  | .local _ .vmem, ⟨43, _⟩ => ⟨S1x1x1x512, .f32⟩
  | .local _ .vmem, ⟨44, _⟩ => ⟨S1x1x1x512, .f32⟩
  | .local _ .vmem, ⟨45, _⟩ => ⟨S1x1x1x512, .f32⟩
  | .local _ .vmem, ⟨46, _⟩ => ⟨S1x1x1x512, .f32⟩
  | .local _ .vmem, ⟨47, _⟩ => ⟨S1x1x1x512, .f32⟩
  | .local _ .vmem, ⟨48, _⟩ => ⟨S1x1x1x512, .f32⟩
  | .local _ .vmem, ⟨49, _⟩ => ⟨S1x1x1x512, .f32⟩
  | .local _ .vmem, ⟨50, _⟩ => ⟨S1x1x1x512, .f32⟩
  | .local _ .vmem, ⟨51, _⟩ => ⟨S1x1x1x512, .f32⟩
  | .local _ .vmem, ⟨52, _⟩ => ⟨S1x1x1x512, .f32⟩
  | .local _ .vmem, ⟨53, _⟩ => ⟨S1x1x1x512, .f32⟩
  | .local _ .vmem, ⟨54, _⟩ => ⟨S1x1x1x512, .f32⟩
  | .local _ .vmem, ⟨55, _⟩ => ⟨S1x1x1x512, .f32⟩
  | .local _ .vmem, ⟨56, _⟩ => ⟨S1x1x1x512, .f32⟩
  | .local _ .vmem, ⟨57, _⟩ => ⟨S1x1x1x512, .f32⟩
  | .local _ .vmem, ⟨58, _⟩ => ⟨S1x1x1x512, .f32⟩
  | .local _ .vmem, ⟨59, _⟩ => ⟨S1x1x1x512, .f32⟩
  | .local _ .vmem, ⟨60, _⟩ => ⟨S1x1x1x512, .f32⟩
  | .local _ .vmem, ⟨61, _⟩ => ⟨S1x1x1x512, .f32⟩
  | .local _ .vmem, ⟨62, _⟩ => ⟨S1x1x1x512, .f32⟩
  | .local _ .vmem, ⟨63, _⟩ => ⟨S1x1x1x512, .f32⟩
  | .local _ .vmem, ⟨64, _⟩ => ⟨S1x1x1x512, .f32⟩
  | .local _ .vmem, ⟨65, _⟩ => ⟨S128x1, .f32⟩
  | .local _ .vmem, ⟨66, _⟩ => ⟨S1x1, .f32⟩
  | .local _ .vmem, ⟨67, _⟩ => ⟨S128x1, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | _, _ => false

abbrev semScoped : Fin 0 → Bool
  | ⟨_, h⟩ => absurd h (Nat.not_lt_zero _)

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  ofTc nBuf bufTy 0 68 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_stg21_0 : Ref sig .tc := ⟨.vmem, 41, rfl⟩
abbrev cc0_stg21_1 : Ref sig .tc := ⟨.vmem, 42, rfl⟩
abbrev cc0_stg22_0 : Ref sig .tc := ⟨.vmem, 43, rfl⟩
abbrev cc0_stg22_1 : Ref sig .tc := ⟨.vmem, 44, rfl⟩
abbrev cc0_stg23_0 : Ref sig .tc := ⟨.vmem, 45, rfl⟩
abbrev cc0_stg23_1 : Ref sig .tc := ⟨.vmem, 46, rfl⟩
abbrev cc0_stg24_0 : Ref sig .tc := ⟨.vmem, 47, rfl⟩
abbrev cc0_stg24_1 : Ref sig .tc := ⟨.vmem, 48, rfl⟩
abbrev cc0_stg25_0 : Ref sig .tc := ⟨.vmem, 49, rfl⟩
abbrev cc0_stg25_1 : Ref sig .tc := ⟨.vmem, 50, rfl⟩
abbrev cc0_stg26_0 : Ref sig .tc := ⟨.vmem, 51, rfl⟩
abbrev cc0_stg26_1 : Ref sig .tc := ⟨.vmem, 52, rfl⟩
abbrev cc0_stg27_0 : Ref sig .tc := ⟨.vmem, 53, rfl⟩
abbrev cc0_stg27_1 : Ref sig .tc := ⟨.vmem, 54, rfl⟩
abbrev cc0_stg28_0 : Ref sig .tc := ⟨.vmem, 55, rfl⟩
abbrev cc0_stg28_1 : Ref sig .tc := ⟨.vmem, 56, rfl⟩
abbrev cc0_stg29_0 : Ref sig .tc := ⟨.vmem, 57, rfl⟩
abbrev cc0_stg29_1 : Ref sig .tc := ⟨.vmem, 58, rfl⟩
abbrev cc0_stg30_0 : Ref sig .tc := ⟨.vmem, 59, rfl⟩
abbrev cc0_stg30_1 : Ref sig .tc := ⟨.vmem, 60, rfl⟩
abbrev cc0_stg31_0 : Ref sig .tc := ⟨.vmem, 61, rfl⟩
abbrev cc0_stg31_1 : Ref sig .tc := ⟨.vmem, 62, rfl⟩
abbrev cc0_stg32_0 : Ref sig .tc := ⟨.vmem, 63, rfl⟩
abbrev cc0_stg32_1 : Ref sig .tc := ⟨.vmem, 64, rfl⟩
abbrev cc0_stg33_0 : Ref sig .tc := ⟨.vmem, 65, rfl⟩
abbrev cc0_stg34_0 : Ref sig .tc := ⟨.vmem, 66, rfl⟩
abbrev cc0_stg35_0 : Ref sig .tc := ⟨.vmem, 67, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40
abbrev cc0_sem21_0 : DmaSem sig := 41
abbrev cc0_sem21_1 : DmaSem sig := 42
abbrev cc0_sem22_0 : DmaSem sig := 43
abbrev cc0_sem22_1 : DmaSem sig := 44
abbrev cc0_sem23_0 : DmaSem sig := 45
abbrev cc0_sem23_1 : DmaSem sig := 46
abbrev cc0_sem24_0 : DmaSem sig := 47
abbrev cc0_sem24_1 : DmaSem sig := 48
abbrev cc0_sem25_0 : DmaSem sig := 49
abbrev cc0_sem25_1 : DmaSem sig := 50
abbrev cc0_sem26_0 : DmaSem sig := 51
abbrev cc0_sem26_1 : DmaSem sig := 52
abbrev cc0_sem27_0 : DmaSem sig := 53
abbrev cc0_sem27_1 : DmaSem sig := 54
abbrev cc0_sem28_0 : DmaSem sig := 55
abbrev cc0_sem28_1 : DmaSem sig := 56
abbrev cc0_sem29_0 : DmaSem sig := 57
abbrev cc0_sem29_1 : DmaSem sig := 58
abbrev cc0_sem30_0 : DmaSem sig := 59
abbrev cc0_sem30_1 : DmaSem sig := 60
abbrev cc0_sem31_0 : DmaSem sig := 61
abbrev cc0_sem31_1 : DmaSem sig := 62
abbrev cc0_sem32_0 : DmaSem sig := 63
abbrev cc0_sem32_1 : DmaSem sig := 64
abbrev cc0_sem33_0 : DmaSem sig := 65
abbrev cc0_sem34_0 : DmaSem sig := 66
abbrev cc0_sem35_0 : DmaSem sig := 67

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v448 : BitVec 1 := Scalar.cmpi .eq arg0 c0_i32
  let v449 : BitVec 32 := Scalar.extui v448
  let c0_i32_203 : BitVec 32 := 0#32
  let v450 : BitVec 1 := Scalar.cmpi .ne v449 c0_i32_203
  v450

def k0_cond2 (i : grid0.Coords) : BitVec 1 :=
  let arg0 : BitVec 32 := BitVec.ofNat 32 (i 0).val
  let c0_i32_204 : BitVec 32 := 0#32
  let v451 : BitVec 1 := Scalar.cmpi .ne arg0 c0_i32_204
  let v452 : BitVec 32 := Scalar.extui v451
  let c0_i32_205 : BitVec 32 := 0#32
  let v453 : BitVec 1 := Scalar.cmpi .ne v452 c0_i32_205
  v453

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  ![c4_i32.toNat, arg0.toNat, c0_i32.toNat]

def cc0_transform_5 (i : grid0.Coords) : Fin 3 → Nat :=
  let arg0 : BitVec 32 := BitVec.ofNat 32 (i 0).val
  let c5_i32 : BitVec 32 := 5#32
  let c0_i32 : BitVec 32 := 0#32
  let c0_i32_0 : BitVec 32 := 0#32
  ![c5_i32.toNat, arg0.toNat, c0_i32.toNat]

def cc0_transform_6 (i : grid0.Coords) : Fin 3 → Nat :=
  let arg0 : BitVec 32 := BitVec.ofNat 32 (i 0).val
  let c6_i32 : BitVec 32 := 6#32
  let c0_i32 : BitVec 32 := 0#32
  let c0_i32_0 : BitVec 32 := 0#32
  ![c6_i32.toNat, arg0.toNat, c0_i32.toNat]

def cc0_transform_7 (i : grid0.Coords) : Fin 3 → Nat :=
  let arg0 : BitVec 32 := BitVec.ofNat 32 (i 0).val
  let c7_i32 : BitVec 32 := 7#32
  let c0_i32 : BitVec 32 := 0#32
  let c0_i32_0 : BitVec 32 := 0#32
  ![c7_i32.toNat, arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_11 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_12 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_13 (i : grid0.Coords) : Fin 4 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, arg0.toNat, c0_i32.toNat, c0_i32_0.toNat]

def cc0_transform_14 (i : grid0.Coords) : Fin 4 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, arg0.toNat, c0_i32.toNat, c0_i32_0.toNat]

def cc0_transform_15 (i : grid0.Coords) : Fin 4 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, arg0.toNat, c0_i32.toNat, c0_i32_0.toNat]

def cc0_transform_16 (i : grid0.Coords) : Fin 4 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, arg0.toNat, c0_i32.toNat, c0_i32_0.toNat]

def cc0_transform_17 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_18 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_19 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_20 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_21 (i : grid0.Coords) : Fin 4 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, arg0.toNat, c0_i32.toNat, c0_i32_0.toNat]

def cc0_transform_22 (i : grid0.Coords) : Fin 4 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, arg0.toNat, c0_i32.toNat, c0_i32_0.toNat]

def cc0_transform_23 (i : grid0.Coords) : Fin 4 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, arg0.toNat, c0_i32.toNat, c0_i32_0.toNat]

def cc0_transform_24 (i : grid0.Coords) : Fin 4 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, arg0.toNat, c0_i32.toNat, c0_i32_0.toNat]

def cc0_transform_25 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_26 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, arg0.toNat, c0_i32.toNat, c0_i32_0.toNat]

def cc0_transform_27 (i : grid0.Coords) : Fin 4 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, arg0.toNat, c0_i32.toNat, c0_i32_0.toNat]

def cc0_transform_28 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_29 (i : grid0.Coords) : Fin 4 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, arg0.toNat, c0_i32.toNat, c0_i32_0.toNat]

def cc0_transform_30 (i : grid0.Coords) : Fin 4 → Nat :=
  let arg0 : BitVec 32 := BitVec.ofNat 32 (i 0).val
  let c5_i32 : BitVec 32 := 5#32
  let c0_i32 : BitVec 32 := 0#32
  let c0_i32_0 : BitVec 32 := 0#32
  let c0_i32_1 : BitVec 32 := 0#32
  ![c5_i32.toNat, arg0.toNat, c0_i32.toNat, c0_i32_0.toNat]

def cc0_transform_31 (i : grid0.Coords) : Fin 4 → Nat :=
  let arg0 : BitVec 32 := BitVec.ofNat 32 (i 0).val
  let c6_i32 : BitVec 32 := 6#32
  let c0_i32 : BitVec 32 := 0#32
  let c0_i32_0 : BitVec 32 := 0#32
  let c0_i32_1 : BitVec 32 := 0#32
  ![c6_i32.toNat, arg0.toNat, c0_i32.toNat, c0_i32_0.toNat]

def cc0_transform_32 (i : grid0.Coords) : Fin 4 → Nat :=
  let arg0 : BitVec 32 := BitVec.ofNat 32 (i 0).val
  let c7_i32 : BitVec 32 := 7#32
  let c0_i32 : BitVec 32 := 0#32
  let c0_i32_0 : BitVec 32 := 0#32
  let c0_i32_1 : BitVec 32 := 0#32
  ![c7_i32.toNat, arg0.toNat, c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1x512 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1x512 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x1x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x1x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x1x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1x512 .i32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x1x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x1x512 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x1x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x1x512 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x1x512 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x1x512 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x1x512 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x1x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x1x512 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x1x512 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x1x512 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x1x512 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x1x512 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x1x512 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 1 → Memref sig .tc .vmem S128x1 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x1 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S128x1 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]
-- ==== KernelIdeal.lean ====
variable {F : FTy → Type} [FloatOps F] [Named F]
def κ : String → Option EReal := fun
  | "reg_scale" => some ((1 / 11704 : ℝ) : EReal)
  | _ => none
-- ==== ReferenceIdeal.lean ====
abbrev S16384x768 : Shape := ⟨2, ![16384, 768]⟩
abbrev S77x768 : Shape := ⟨2, ![77, 768]⟩
abbrev S16384 : Shape := ⟨1, ![16384]⟩
abbrev S77 : Shape := ⟨1, ![77]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 103
  | .vmem => 0
  | .smem => 0
  | _ => 0

abbrev bufTy : (tb : Table) → Fin (tcTables nBuf tb) → BufTy
  | .hbm, ⟨0, _⟩ => ⟨S16384x768, .f32⟩
  | .hbm, ⟨1, _⟩ => ⟨S77x768, .f32⟩
  | .hbm, ⟨2, _⟩ => ⟨S16384, .i32⟩
  | .hbm, ⟨3, _⟩ => ⟨S16384, .f32⟩
  | .hbm, ⟨4, _⟩ => ⟨S16384, .f32⟩
  | .hbm, ⟨5, _⟩ => ⟨S77, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S16384, .f32⟩
  | .hbm, ⟨11, _⟩ => ⟨S_, .f32⟩
  | .hbm, ⟨12, _⟩ => ⟨S77, .f32⟩
  | .hbm, ⟨13, _⟩ => ⟨S77, .f32⟩
  | .hbm, ⟨14, _⟩ => ⟨S77, .f32⟩
  | .hbm, ⟨15, _⟩ => ⟨S77, .f32⟩
  | .hbm, ⟨16, _⟩ => ⟨S77, .i1⟩
  | .hbm, ⟨17, _⟩ => ⟨S77, .f32⟩
  | .hbm, ⟨18, _⟩ => ⟨S77, .f32⟩
  | .hbm, ⟨19, _⟩ => ⟨S77, .f32⟩
  | .hbm, ⟨20, _⟩ => ⟨S77, .f32⟩
  | .hbm, ⟨21, _⟩ => ⟨S77, .f32⟩
  | .hbm, ⟨22, _⟩ => ⟨S77, .f32⟩
  | .hbm, ⟨23, _⟩ => ⟨S77, .f32⟩
  | .hbm, ⟨24, _⟩ => ⟨S77, .f32⟩
  | .hbm, ⟨25, _⟩ => ⟨S_, .i32⟩
  | .hbm, ⟨26, _⟩ => ⟨S16384, .i32⟩
  | .hbm, ⟨27, _⟩ => ⟨S16384, .i1⟩
  | .hbm, ⟨28, _⟩ => ⟨S_, .i32⟩
  | .hbm, ⟨29, _⟩ => ⟨S16384, .i32⟩
  | .hbm, ⟨30, _⟩ => ⟨S16384, .i32⟩
  | .hbm, ⟨31, _⟩ => ⟨S16384, .i32⟩
  | .hbm, ⟨32, _⟩ => ⟨S16384x1, .i32⟩
  | .hbm, ⟨33, _⟩ => ⟨S1, .i32⟩
  | .hbm, ⟨34, _⟩ => ⟨S_, .i32⟩
  | .hbm, ⟨35, _⟩ => ⟨S16384x1, .i32⟩
  | .hbm, ⟨36, _⟩ => ⟨S16384x1, .i1⟩
  | .hbm, ⟨37, _⟩ => ⟨S1x1, .i32⟩
  | .hbm, ⟨38, _⟩ => ⟨S16384x1, .i32⟩
  | .hbm, ⟨39, _⟩ => ⟨S16384x1, .i1⟩
  | .hbm, ⟨40, _⟩ => ⟨S16384x1, .i1⟩
  | .hbm, ⟨41, _⟩ => ⟨S_, .i1⟩
  | .hbm, ⟨42, _⟩ => ⟨S16384, .i1⟩
  | .hbm, ⟨43, _⟩ => ⟨S16384x768, .f32⟩
  | .hbm, ⟨44, _⟩ => ⟨S16384x768, .i1⟩
  | .hbm, ⟨45, _⟩ => ⟨S_, .f32⟩
  | .hbm, ⟨46, _⟩ => ⟨S16384x768, .f32⟩
  | .hbm, ⟨47, _⟩ => ⟨S16384x768, .f32⟩
  | .hbm, ⟨48, _⟩ => ⟨S_, .i32⟩
  | .hbm, ⟨49, _⟩ => ⟨S16384, .i32⟩
  | .hbm, ⟨50, _⟩ => ⟨S16384, .i1⟩
  | .hbm, ⟨51, _⟩ => ⟨S_, .i32⟩
  | .hbm, ⟨52, _⟩ => ⟨S16384, .i32⟩
  | .hbm, ⟨53, _⟩ => ⟨S16384, .i32⟩
  | .hbm, ⟨54, _⟩ => ⟨S16384, .i32⟩
  | .hbm, ⟨55, _⟩ => ⟨S16384x1, .i32⟩
  | .hbm, ⟨56, _⟩ => ⟨S1, .i32⟩
  | .hbm, ⟨57, _⟩ => ⟨S_, .i32⟩
  | .hbm, ⟨58, _⟩ => ⟨S16384x1, .i32⟩
  | .hbm, ⟨59, _⟩ => ⟨S16384x1, .i1⟩
  | .hbm, ⟨60, _⟩ => ⟨S1x1, .i32⟩
  | .hbm, ⟨61, _⟩ => ⟨S16384x1, .i32⟩
  | .hbm, ⟨62, _⟩ => ⟨S16384x1, .i1⟩
  | .hbm, ⟨63, _⟩ => ⟨S16384x1, .i1⟩
  | .hbm, ⟨64, _⟩ => ⟨S_, .i1⟩
  | .hbm, ⟨65, _⟩ => ⟨S16384, .i1⟩
  | .hbm, ⟨66, _⟩ => ⟨S16384, .f32⟩
  | .hbm, ⟨67, _⟩ => ⟨S_, .f32⟩
  | .hbm, ⟨68, _⟩ => ⟨S16384, .f32⟩
  | .hbm, ⟨69, _⟩ => ⟨S16384, .f32⟩
  | .hbm, ⟨70, _⟩ => ⟨S16384x768, .f32⟩
  | .hbm, ⟨71, _⟩ => ⟨S16384x768, .f32⟩
  | .hbm, ⟨72, _⟩ => ⟨S_, .f32⟩
  | .hbm, ⟨73, _⟩ => ⟨S16384, .f32⟩
  | .hbm, ⟨74, _⟩ => ⟨S16384, .f32⟩
  | .hbm, ⟨75, _⟩ => ⟨S16384, .i1⟩
  | .hbm, ⟨76, _⟩ => ⟨S16384, .f32⟩
  | .hbm, ⟨77, _⟩ => ⟨S16384, .f32⟩
  | .hbm, ⟨78, _⟩ => ⟨S16384, .i1⟩
  | .hbm, ⟨79, _⟩ => ⟨S16384, .f32⟩
  | .hbm, ⟨80, _⟩ => ⟨S16384, .f32⟩
  | .hbm, ⟨81, _⟩ => ⟨S16384, .f32⟩
  | .hbm, ⟨82, _⟩ => ⟨S16384, .f32⟩
  | .hbm, ⟨83, _⟩ => ⟨S16384, .f32⟩
  | .hbm, ⟨84, _⟩ => ⟨S16384, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_v4 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v5 : Ref sig .tc := ⟨.hbm, 47, rfl⟩
abbrev main_call2_c : Ref sig .tc := ⟨.hbm, 48, rfl⟩
abbrev main_call2_v0 : Ref sig .tc := ⟨.hbm, 49, rfl⟩
abbrev main_call2_v1 : Ref sig .tc := ⟨.hbm, 50, rfl⟩
abbrev main_call2_c_0 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_c_1 : Ref sig .tc := ⟨.hbm, 56, rfl⟩
abbrev main_call2_c_2 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_3 : Ref sig .tc := ⟨.hbm, 64, rfl⟩
abbrev main_call2_v12 : Ref sig .tc := ⟨.hbm, 65, rfl⟩
abbrev main_call2_v13 : Ref sig .tc := ⟨.hbm, 66, rfl⟩
abbrev main_call2_cst : Ref sig .tc := ⟨.hbm, 67, rfl⟩
abbrev main_call2_v14 : Ref sig .tc := ⟨.hbm, 68, rfl⟩
abbrev main_v6 : Ref sig .tc := ⟨.hbm, 69, rfl⟩
abbrev main_v7 : Ref sig .tc := ⟨.hbm, 70, rfl⟩
abbrev main_call3_v0 : Ref sig .tc := ⟨.hbm, 71, rfl⟩
abbrev main_call3_cst : Ref sig .tc := ⟨.hbm, 72, rfl⟩
abbrev main_call3_v1 : Ref sig .tc := ⟨.hbm, 73, rfl⟩
abbrev main_v8 : Ref sig .tc := ⟨.hbm, 74, rfl⟩
abbrev main_v9 : Ref sig .tc := ⟨.hbm, 75, rfl⟩
abbrev main_v10 : Ref sig .tc := ⟨.hbm, 76, rfl⟩
abbrev main_v11 : Ref sig .tc := ⟨.hbm, 77, rfl⟩
abbrev main_v12 : Ref sig .tc := ⟨.hbm, 78, rfl⟩
abbrev main_v13 : Ref sig .tc := ⟨.hbm, 79, rfl⟩
abbrev main_v14 : Ref sig .tc := ⟨.hbm, 80, rfl⟩
abbrev main_v15 : Ref sig .tc := ⟨.hbm, 81, rfl⟩
abbrev main_v16 : Ref sig .tc := ⟨.hbm, 82, rfl⟩
abbrev main_v17 : Ref sig .tc := ⟨.hbm, 83, rfl⟩
abbrev main_v18 : Ref sig .tc := ⟨.hbm, 84, rfl⟩
abbrev main_cst_0 : Ref sig .tc := ⟨.hbm, 85, rfl⟩
abbrev main_v19 : Ref sig .tc := ⟨.hbm, 86, rfl⟩
abbrev main_cst_1 : Ref sig .tc := ⟨.hbm, 87, rfl⟩
abbrev main_v20 : Ref sig .tc := ⟨.hbm, 88, rfl⟩
abbrev main_cst_2 : Ref sig .tc := ⟨.hbm, 89, rfl⟩
abbrev main_v21 : Ref sig .tc := ⟨.hbm, 90, rfl⟩
abbrev main_cst_3 : Ref sig .tc := ⟨.hbm, 91, rfl⟩
abbrev main_v22 : Ref sig .tc := ⟨.hbm, 92, rfl⟩
abbrev main_v23 : Ref sig .tc := ⟨.hbm, 93, rfl⟩
abbrev main_cst_4 : Ref sig .tc := ⟨.hbm, 94, rfl⟩
abbrev main_cst_5 : Ref sig .tc := ⟨.hbm, 95, rfl⟩
abbrev main_v24 : Ref sig .tc := ⟨.hbm, 96, rfl⟩
abbrev main_cst_6 : Ref sig .tc := ⟨.hbm, 97, rfl⟩
abbrev main_v25 : Ref sig .tc := ⟨.hbm, 98, rfl⟩
abbrev main_cst_7 : Ref sig .tc := ⟨.hbm, 99, rfl⟩
abbrev main_v26 : Ref sig .tc := ⟨.hbm, 100, rfl⟩
abbrev main_v27 : Ref sig .tc := ⟨.hbm, 101, rfl⟩
abbrev main_v28 : Ref sig .tc := ⟨.hbm, 102, rfl⟩

abbrev nD : Nat := 1
abbrev τ : Topo := Topo.v7x

variable {F : FTy → Type} [FloatOps F]
-- ==== Proof.Assumed.lean ====
/- What the precondition says: every entry of the rows and of the centroids is a real, and every label is one of the 77. -/
module

public import proofs.«01_k».proof.Defs
public import Idealize.ShloMosaic.Lib.Pipeline.ValueKit
public import Idealize.ShloMosaic.PureOps.Ideal.Laws

@[expose] public section

noncomputable section

namespace Cert.Assumed

open Idealize.ShloMosaic Idealize.ShloMosaic.TcCoe Idealize.SL.Sem

/-- The stated facts of the precondition. -/
instance pre_facts : Cert.Pre_finite_rows_and_labels.Facts where
  bcast_S_S16384x768 := by decide
  bcast_S_S77x768 := by decide
  bcast_S_S16384 := by decide

/-- The pattern of positive infinity is the top. -/
theorem inf : Ideal.ofBits .f32 0x7F800000#32 = (⊤ : EReal) := by
  simp [Ideal.ofBits, Ideal.ieee]

/-- A bit that is one states its condition. -/
theorem of_bit {p : Prop} [Decidable p] (h : BitVec.ofBool (decide p) = 1#1) : p := by
  by_cases hp : p
  · exact hp
  · rw [decide_eq_false hp] at h
    exact absurd h (by decide)

/-- An extended real whose absolute value is below the top is a real. -/
theorem real_of_abs {v : EReal} (h : (FloatOps.absf (F := Ideal) (φ := .f32) v : EReal) < Ideal.ofBits .f32 0x7F800000#32) :
    ∃ r : ℝ, v = r := by
  rw [inf, Ideal.absf_def] at h
  induction v with
  | bot => simp at h
  | top => simp at h
  | coe r => exact ⟨r, rfl⟩

/-- A word that is at least 0 and less than 77 is the word of a label. -/
theorem label_of_range {b : BitVec 32} (h : IntOp.andi (IntOp.cmpi .sge b 0#32) (IntOp.cmpi .slt b 77#32) = 1#1) :
    ∃ l : Fin 77, b = BitVec.ofNat 32 l.val := by
  have h' : (BitVec.sle 0#32 b && BitVec.slt b 77#32) = true := by
    change BitVec.ofBool (BitVec.sle 0#32 b) &&& BitVec.ofBool (BitVec.slt b 77#32) = 1#1 at h
    revert h
    cases BitVec.sle 0#32 b <;> cases BitVec.slt b 77#32 <;> decide
  rw [Bool.and_eq_true, BitVec.sle, BitVec.slt, decide_eq_true_eq, decide_eq_true_eq] at h'
  have h0 : (0#32 : BitVec 32).toInt = 0 := by decide
  have h77 : (77#32 : BitVec 32).toInt = 77 := by decide
  rw [h0, h77] at h'
  have e := BitVec.toInt_eq_toNat_cond b
  have hb := b.isLt
  have hn : b.toNat < 77 := by
    split_ifs at e <;> omega
  exact ⟨⟨b.toNat, hn⟩, by simp⟩

open Cert.Pre_finite_rows_and_labels in
/-- Where the predicate is all ones, rows and centroids are reals, and labels are in range. -/
theorem read (x : FVec Ideal S16384x768 .f32) (c : FVec Ideal S77x768 .f32) (lbl : IVec S16384 32) (ds dd : FVec Ideal S16384 .f32)
    (δ : FVec Ideal S77 .f32) (h : (fn x c lbl ds dd δ).1 = (fun _ => 1#1) ∧ (fn x c lbl ds dd δ).2.1 = (fun _ => 1#1)
      ∧ (fn x c lbl ds dd δ).2.2 = fun _ => 1#1) :
    (∀ p k, ∃ r : ℝ, x (ix2 p k) = r) ∧ (∀ l k, ∃ r : ℝ, c (ix2 l k) = r)
      ∧ ∀ p, ∃ l : Fin 77, lbl (ix1 p) = BitVec.ofNat 32 l.val := by
  refine ⟨fun p k => ?_, fun l k => ?_, fun p => ?_⟩
  · refine real_of_abs (of_bit (Eq.trans ?_ (congrFun h.1 (ix2 p k))))
    pointwise [fn]
  · refine real_of_abs (of_bit (Eq.trans ?_ (congrFun h.2.1 (ix2 l k))))
    pointwise [fn]
  · refine label_of_range (Eq.trans ?_ (congrFun h.2.2 (ix1 p)))
    pointwise [fn]

/-- The same, of a memory: real rows and centroids and the labels, as functions. -/
theorem values (m : (ℓ : Loc Cert.KernelIdeal.nD Cert.KernelIdeal.τ Cert.KernelIdeal.sig) → Buf (Elt Ideal) ℓ)
    (h : Cert.Pre_KernelIdeal_finite_rows_and_labels m) (c : Dev Cert.KernelIdeal.nD) :
    ∃ (x : Fin 16384 → Fin 768 → ℝ) (y : Fin 77 → Fin 768 → ℝ) (L : Fin 16384 → Fin 77),
      (∀ p k, m ((c.tc : Thread Cert.KernelIdeal.nD Cert.KernelIdeal.τ).loc Cert.KernelIdeal.main_arg0) (ix2 p k) = (x p k : EReal))
      ∧ (∀ l k, m ((c.tc : Thread Cert.KernelIdeal.nD Cert.KernelIdeal.τ).loc Cert.KernelIdeal.main_arg1) (ix2 l k) = (y l k : EReal))
      ∧ ∀ p, m ((c.tc : Thread Cert.KernelIdeal.nD Cert.KernelIdeal.τ).loc Cert.KernelIdeal.main_arg2) (ix1 p) = BitVec.ofNat 32 (L p).val := by
  obtain ⟨hx, hy, hL⟩ := read _ _ _ _ _ _ (h c)
  choose x hx using hx
  choose y hy using hy
  choose L hL using hL
  exact ⟨x, y, L, hx, hy, hL⟩

end Cert.Assumed

end
-- ==== Proof.KernelIdealRunA.lean ====
/- The body of the kernel on the extended reals, at the first grid point. Set up as the printed launch's, but with the blocks' contents put in
   before the body is unfolded, which keeps the goals small. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body stores in the two outputs at the first grid point, with its triple: with each input's buffer holding its block,
    it runs to its end and gives the inputs back as they were and the outputs with those stores made. -/
noncomputable def kernelRun0_A (c : Dev nD) (i : grid0.Coords) (arg1 : Memref sig .tc .vmem S1x512x768 .f32) (harg1 : arg1.IsWhole) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S1x512x768 .f32) (harg8 : arg8.IsWhole) (arg9 : Memref sig .tc .vmem S128x768 .f32) (harg9 : arg9.IsWhole) (arg10 : Memref sig .tc .vmem S1x1x1x512 .i32) (harg10 : arg10.IsWhole) (arg11 : Memref sig .tc .vmem S1x1x1x512 .i32) (harg11 : arg11.IsWhole) (arg12 : Memref sig .tc .vmem S1x1x1x512 .i32) (harg12 : arg12.IsWhole) (arg13 : Memref sig .tc .vmem S1x1x1x512 .i32) (harg13 : arg13.IsWhole) (arg14 : Memref sig .tc .vmem S1x1x1x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x1x512 .i32) (harg17 : arg17.IsWhole) (arg18 : Memref sig .tc .vmem S1x1x1x512 .f32) (harg18 : arg18.IsWhole) (arg19 : Memref sig .tc .vmem S1x1x1x512 .f32) (harg19 : arg19.IsWhole) (arg20 : Memref sig .tc .vmem S1x1x1x512 .f32) (harg20 : arg20.IsWhole) (arg21 : Memref sig .tc .vmem S1x1x1x512 .f32) (harg21 : arg21.IsWhole) (arg22 : Memref sig .tc .vmem S1x1x1x512 .f32) (harg22 : arg22.IsWhole) (arg23 : Memref sig .tc .vmem S1x1x1x512 .f32) (harg23 : arg23.IsWhole) (arg24 : Memref sig .tc .vmem S1x1x1x512 .f32) (harg24 : arg24.IsWhole) (arg25 : Memref sig .tc .vmem S1x1x1x512 .f32) (harg25 : arg25.IsWhole) (arg26 : Memref sig .tc .vmem S1x1x1x512 .f32) (harg26 : arg26.IsWhole) (arg27 : Memref sig .tc .vmem S1x1x1x512 .f32) (harg27 : arg27.IsWhole) (arg28 : Memref sig .tc .vmem S1x1x1x512 .f32) (harg28 : arg28.IsWhole) (arg29 : Memref sig .tc .vmem S1x1x1x512 .f32) (harg29 : arg29.IsWhole) (arg30 : Memref sig .tc .vmem S1x1x1x512 .f32) (harg30 : arg30.IsWhole) (arg31 : Memref sig .tc .vmem S1x1x1x512 .f32) (harg31 : arg31.IsWhole) (arg32 : Memref sig .tc .vmem S1x1x1x512 .f32) (harg32 : arg32.IsWhole) (arg33 : Memref sig .tc .vmem S1x1x1x512 .f32) (harg33 : arg33.IsWhole) (arg34 : Memref sig .tc .vmem S128x1 .f32) (harg34 : arg34.IsWhole) (arg35 : Memref sig .tc .vmem S1x1 .f32) (harg35 : arg35.IsWhole) (arg36 : Memref sig .tc .vmem S128x1 .f32) (harg36 : arg36.IsWhole) (hc0 : cond0_0 i) (hc1 : ¬cond0_1 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S1x512x768 .f32) (x7 : Vec F S1x512x768 .f32) (x8 : Vec F S128x768 .f32) (x9 : Vec F S1x1x1x512 .i32) (x10 : Vec F S1x1x1x512 .i32) (x11 : Vec F S1x1x1x512 .i32) (x12 : Vec F S1x1x1x512 .i32) (x13 : Vec F S1x1x1x512 .i32) (x14 : Vec F S1x1x1x512 .i32) (x15 : Vec F S1x1x1x512 .i32) (x16 : Vec F S1x1x1x512 .i32) (x17 : Vec F S1x1x1x512 .f32) (x18 : Vec F S1x1x1x512 .f32) (x19 : Vec F S1x1x1x512 .f32) (x20 : Vec F S1x1x1x512 .f32) (x21 : Vec F S1x1x1x512 .f32) (x22 : Vec F S1x1x1x512 .f32) (x23 : Vec F S1x1x1x512 .f32) (x24 : Vec F S1x1x1x512 .f32) (x25 : Vec F S1x1x1x512 .f32) (x26 : Vec F S1x1x1x512 .f32) (x27 : Vec F S1x1x1x512 .f32) (x28 : Vec F S1x1x1x512 .f32) (x29 : Vec F S1x1x1x512 .f32) (x30 : Vec F S1x1x1x512 .f32) (x31 : Vec F S1x1x1x512 .f32) (x32 : Vec F S1x1x1x512 .f32) (x33 : Vec F S128x1 .f32) :
    Σ' (L34 : List (View.Piece (Elt F) S1x1 .f32)), { L35 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ (∃ d, owns (c : Thread nD τ) arg35 fullShare d) ∗ (∃ d, owns (c : Thread nD τ) arg36 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ (∃ f, arg35.view.loc (c : Thread nD τ) ↦[arg35.view.set]{fullShare} arg35.view.writes (Elt F) f L34) ∗ (∃ f, arg36.view.loc (c : Thread nD τ) ↦[arg36.view.set]{fullShare} arg36.view.writes (Elt F) f L35)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%d34, %f34, -, H34⟩, ⟨%d35, %f35, -, H35⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29; obtain rfl := harg31.eq_unread hf30; obtain rfl := harg32.eq_unread hf31; obtain rfl := harg33.eq_unread hf32; obtain rfl := harg34.eq_unread hf33
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [H29]
    · iexists _; isplitr; · ipureintro; exact harg30.read_unread _
      iexact H29
    isplitl [H30]
    · iexists _; isplitr; · ipureintro; exact harg31.read_unread _
      iexact H30
    isplitl [H31]
    · iexists _; isplitr; · ipureintro; exact harg32.read_unread _
      iexact H31
    isplitl [H32]
    · iexists _; isplitr; · ipureintro; exact harg33.read_unread _
      iexact H32
    isplitl [H33]
    · iexists _; isplitr; · ipureintro; exact harg34.read_unread _
      iexact H33
    isplitl [H34]; · iexists _; iexact H34
    iexists _; iexact H35

end Cert.KernelIdeal.Gen

end
-- ==== Proof.KernelIdealRunB.lean ====
/- The body of the kernel on the extended reals, at a grid point after the first. Set up as the printed launch's, but with the blocks' contents put in
   before the body is unfolded, which keeps the goals small. -/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the body stores in the two outputs at a grid point after the first, with its triple: with each input's buffer holding its block, and the running loss in the first output's,
    it runs to its end and gives the inputs back as they were and the outputs with those stores made. -/
noncomputable def kernelRun0_B (c : Dev nD) (i : grid0.Coords) (arg1 : Memref sig .tc .vmem S1x512x768 .f32) (harg1 : arg1.IsWhole) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S1x512x768 .f32) (harg8 : arg8.IsWhole) (arg9 : Memref sig .tc .vmem S128x768 .f32) (harg9 : arg9.IsWhole) (arg10 : Memref sig .tc .vmem S1x1x1x512 .i32) (harg10 : arg10.IsWhole) (arg11 : Memref sig .tc .vmem S1x1x1x512 .i32) (harg11 : arg11.IsWhole) (arg12 : Memref sig .tc .vmem S1x1x1x512 .i32) (harg12 : arg12.IsWhole) (arg13 : Memref sig .tc .vmem S1x1x1x512 .i32) (harg13 : arg13.IsWhole) (arg14 : Memref sig .tc .vmem S1x1x1x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x1x512 .i32) (harg17 : arg17.IsWhole) (arg18 : Memref sig .tc .vmem S1x1x1x512 .f32) (harg18 : arg18.IsWhole) (arg19 : Memref sig .tc .vmem S1x1x1x512 .f32) (harg19 : arg19.IsWhole) (arg20 : Memref sig .tc .vmem S1x1x1x512 .f32) (harg20 : arg20.IsWhole) (arg21 : Memref sig .tc .vmem S1x1x1x512 .f32) (harg21 : arg21.IsWhole) (arg22 : Memref sig .tc .vmem S1x1x1x512 .f32) (harg22 : arg22.IsWhole) (arg23 : Memref sig .tc .vmem S1x1x1x512 .f32) (harg23 : arg23.IsWhole) (arg24 : Memref sig .tc .vmem S1x1x1x512 .f32) (harg24 : arg24.IsWhole) (arg25 : Memref sig .tc .vmem S1x1x1x512 .f32) (harg25 : arg25.IsWhole) (arg26 : Memref sig .tc .vmem S1x1x1x512 .f32) (harg26 : arg26.IsWhole) (arg27 : Memref sig .tc .vmem S1x1x1x512 .f32) (harg27 : arg27.IsWhole) (arg28 : Memref sig .tc .vmem S1x1x1x512 .f32) (harg28 : arg28.IsWhole) (arg29 : Memref sig .tc .vmem S1x1x1x512 .f32) (harg29 : arg29.IsWhole) (arg30 : Memref sig .tc .vmem S1x1x1x512 .f32) (harg30 : arg30.IsWhole) (arg31 : Memref sig .tc .vmem S1x1x1x512 .f32) (harg31 : arg31.IsWhole) (arg32 : Memref sig .tc .vmem S1x1x1x512 .f32) (harg32 : arg32.IsWhole) (arg33 : Memref sig .tc .vmem S1x1x1x512 .f32) (harg33 : arg33.IsWhole) (arg34 : Memref sig .tc .vmem S128x1 .f32) (harg34 : arg34.IsWhole) (arg35 : Memref sig .tc .vmem S1x1 .f32) (harg35 : arg35.IsWhole) (arg36 : Memref sig .tc .vmem S128x1 .f32) (harg36 : arg36.IsWhole) (hc0 : ¬cond0_0 i) (hc1 : cond0_1 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S1x512x768 .f32) (x7 : Vec F S1x512x768 .f32) (x8 : Vec F S128x768 .f32) (x9 : Vec F S1x1x1x512 .i32) (x10 : Vec F S1x1x1x512 .i32) (x11 : Vec F S1x1x1x512 .i32) (x12 : Vec F S1x1x1x512 .i32) (x13 : Vec F S1x1x1x512 .i32) (x14 : Vec F S1x1x1x512 .i32) (x15 : Vec F S1x1x1x512 .i32) (x16 : Vec F S1x1x1x512 .i32) (x17 : Vec F S1x1x1x512 .f32) (x18 : Vec F S1x1x1x512 .f32) (x19 : Vec F S1x1x1x512 .f32) (x20 : Vec F S1x1x1x512 .f32) (x21 : Vec F S1x1x1x512 .f32) (x22 : Vec F S1x1x1x512 .f32) (x23 : Vec F S1x1x1x512 .f32) (x24 : Vec F S1x1x1x512 .f32) (x25 : Vec F S1x1x1x512 .f32) (x26 : Vec F S1x1x1x512 .f32) (x27 : Vec F S1x1x1x512 .f32) (x28 : Vec F S1x1x1x512 .f32) (x29 : Vec F S1x1x1x512 .f32) (x30 : Vec F S1x1x1x512 .f32) (x31 : Vec F S1x1x1x512 .f32) (x32 : Vec F S1x1x1x512 .f32) (x33 : Vec F S128x1 .f32) (xo34 : Vec F S1x1 .f32) :
    Σ' (L34 : List (View.Piece (Elt F) S1x1 .f32)), { L35 : List (View.Piece (Elt F) S128x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare xo34 ∗ (∃ d, owns (c : Thread nD τ) arg36 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ (∃ f, arg35.view.loc (c : Thread nD τ) ↦[arg35.view.set]{fullShare} arg35.view.writes (Elt F) f L34) ∗ (∃ f, arg36.view.loc (c : Thread nD τ) ↦[arg36.view.set]{fullShare} arg36.view.writes (Elt F) f L35)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, fun E K => ?run⟩
  case run =>
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%d35, %f35, -, H35⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29; obtain rfl := harg31.eq_unread hf30; obtain rfl := harg32.eq_unread hf31; obtain rfl := harg33.eq_unread hf32; obtain rfl := harg34.eq_unread hf33; obtain rfl := harg35.eq_unread hf34
    simp only [cc0__body_eq_skeleton]; unfold cc0__body_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [H29]
    · iexists _; isplitr; · ipureintro; exact harg30.read_unread _
      iexact H29
    isplitl [H30]
    · iexists _; isplitr; · ipureintro; exact harg31.read_unread _
      iexact H30
    isplitl [H31]
    · iexists _; isplitr; · ipureintro; exact harg32.read_unread _
      iexact H31
    isplitl [H32]
    · iexists _; isplitr; · ipureintro; exact harg33.read_unread _
      iexact H32
    isplitl [H33]
    · iexists _; isplitr; · ipureintro; exact harg34.read_unread _
      iexact H33
    isplitl [H34]; · iexists _; iexact H34
    iexists _; iexact H35

end Cert.KernelIdeal.Gen

end
-- ==== Proof.KernelIdealFrame.lean ====
/- The launch of the kernel on the extended reals: what its outputs hold after each grid point, the body obligation, the whole run, and the frame claim.
   Set up as the printed launch's. -/
module

public import proofs.«01_k».proof.Proof.KernelIdealRunA
public import proofs.«01_k».proof.Proof.KernelIdealRunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- Case A's pieces for output 34 tile its block (1 store of `S1x1`), so they cover it. -/
theorem cover0_A_34 (c : Dev nD) (i : grid0.Coords) (arg1 : Memref sig .tc .vmem S1x512x768 .f32) (harg1 : arg1.IsWhole) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S1x512x768 .f32) (harg8 : arg8.IsWhole) (arg9 : Memref sig .tc .vmem S128x768 .f32) (harg9 : arg9.IsWhole) (arg10 : Memref sig .tc .vmem S1x1x1x512 .i32) (harg10 : arg10.IsWhole) (arg11 : Memref sig .tc .vmem S1x1x1x512 .i32) (harg11 : arg11.IsWhole) (arg12 : Memref sig .tc .vmem S1x1x1x512 .i32) (harg12 : arg12.IsWhole) (arg13 : Memref sig .tc .vmem S1x1x1x512 .i32) (harg13 : arg13.IsWhole) (arg14 : Memref sig .tc .vmem S1x1x1x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x1x512 .i32) (harg17 : arg17.IsWhole) (arg18 : Memref sig .tc .vmem S1x1x1x512 .f32) (harg18 : arg18.IsWhole) (arg19 : Memref sig .tc .vmem S1x1x1x512 .f32) (harg19 : arg19.IsWhole) (arg20 : Memref sig .tc .vmem S1x1x1x512 .f32) (harg20 : arg20.IsWhole) (arg21 : Memref sig .tc .vmem S1x1x1x512 .f32) (harg21 : arg21.IsWhole) (arg22 : Memref sig .tc .vmem S1x1x1x512 .f32) (harg22 : arg22.IsWhole) (arg23 : Memref sig .tc .vmem S1x1x1x512 .f32) (harg23 : arg23.IsWhole) (arg24 : Memref sig .tc .vmem S1x1x1x512 .f32) (harg24 : arg24.IsWhole) (arg25 : Memref sig .tc .vmem S1x1x1x512 .f32) (harg25 : arg25.IsWhole) (arg26 : Memref sig .tc .vmem S1x1x1x512 .f32) (harg26 : arg26.IsWhole) (arg27 : Memref sig .tc .vmem S1x1x1x512 .f32) (harg27 : arg27.IsWhole) (arg28 : Memref sig .tc .vmem S1x1x1x512 .f32) (harg28 : arg28.IsWhole) (arg29 : Memref sig .tc .vmem S1x1x1x512 .f32) (harg29 : arg29.IsWhole) (arg30 : Memref sig .tc .vmem S1x1x1x512 .f32) (harg30 : arg30.IsWhole) (arg31 : Memref sig .tc .vmem S1x1x1x512 .f32) (harg31 : arg31.IsWhole) (arg32 : Memref sig .tc .vmem S1x1x1x512 .f32) (harg32 : arg32.IsWhole) (arg33 : Memref sig .tc .vmem S1x1x1x512 .f32) (harg33 : arg33.IsWhole) (arg34 : Memref sig .tc .vmem S128x1 .f32) (harg34 : arg34.IsWhole) (arg35 : Memref sig .tc .vmem S1x1 .f32) (harg35 : arg35.IsWhole) (arg36 : Memref sig .tc .vmem S128x1 .f32) (harg36 : arg36.IsWhole) (hc0 : cond0_0 i) (hc1 : ¬cond0_1 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S1x512x768 .f32) (x7 : Vec F S1x512x768 .f32) (x8 : Vec F S128x768 .f32) (x9 : Vec F S1x1x1x512 .i32) (x10 : Vec F S1x1x1x512 .i32) (x11 : Vec F S1x1x1x512 .i32) (x12 : Vec F S1x1x1x512 .i32) (x13 : Vec F S1x1x1x512 .i32) (x14 : Vec F S1x1x1x512 .i32) (x15 : Vec F S1x1x1x512 .i32) (x16 : Vec F S1x1x1x512 .i32) (x17 : Vec F S1x1x1x512 .f32) (x18 : Vec F S1x1x1x512 .f32) (x19 : Vec F S1x1x1x512 .f32) (x20 : Vec F S1x1x1x512 .f32) (x21 : Vec F S1x1x1x512 .f32) (x22 : Vec F S1x1x1x512 .f32) (x23 : Vec F S1x1x1x512 .f32) (x24 : Vec F S1x1x1x512 .f32) (x25 : Vec F S1x1x1x512 .f32) (x26 : Vec F S1x1x1x512 .f32) (x27 : Vec F S1x1x1x512 .f32) (x28 : Vec F S1x1x1x512 .f32) (x29 : Vec F S1x1x1x512 .f32) (x30 : Vec F S1x1x1x512 .f32) (x31 : Vec F S1x1x1x512 .f32) (x32 : Vec F S1x1x1x512 .f32) (x33 : Vec F S128x1 .f32) (y : S1x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 x31 x32 x33).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 x31 x32 x33).1 S1x1.size (by sl_kernel_rfl) y

/-- What case A leaves in output 34's staging buffer: its pieces read back over junk. -/
def out0_A_34 (c : Dev nD) (i : grid0.Coords) (arg1 : Memref sig .tc .vmem S1x512x768 .f32) (harg1 : arg1.IsWhole) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S1x512x768 .f32) (harg8 : arg8.IsWhole) (arg9 : Memref sig .tc .vmem S128x768 .f32) (harg9 : arg9.IsWhole) (arg10 : Memref sig .tc .vmem S1x1x1x512 .i32) (harg10 : arg10.IsWhole) (arg11 : Memref sig .tc .vmem S1x1x1x512 .i32) (harg11 : arg11.IsWhole) (arg12 : Memref sig .tc .vmem S1x1x1x512 .i32) (harg12 : arg12.IsWhole) (arg13 : Memref sig .tc .vmem S1x1x1x512 .i32) (harg13 : arg13.IsWhole) (arg14 : Memref sig .tc .vmem S1x1x1x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x1x512 .i32) (harg17 : arg17.IsWhole) (arg18 : Memref sig .tc .vmem S1x1x1x512 .f32) (harg18 : arg18.IsWhole) (arg19 : Memref sig .tc .vmem S1x1x1x512 .f32) (harg19 : arg19.IsWhole) (arg20 : Memref sig .tc .vmem S1x1x1x512 .f32) (harg20 : arg20.IsWhole) (arg21 : Memref sig .tc .vmem S1x1x1x512 .f32) (harg21 : arg21.IsWhole) (arg22 : Memref sig .tc .vmem S1x1x1x512 .f32) (harg22 : arg22.IsWhole) (arg23 : Memref sig .tc .vmem S1x1x1x512 .f32) (harg23 : arg23.IsWhole) (arg24 : Memref sig .tc .vmem S1x1x1x512 .f32) (harg24 : arg24.IsWhole) (arg25 : Memref sig .tc .vmem S1x1x1x512 .f32) (harg25 : arg25.IsWhole) (arg26 : Memref sig .tc .vmem S1x1x1x512 .f32) (harg26 : arg26.IsWhole) (arg27 : Memref sig .tc .vmem S1x1x1x512 .f32) (harg27 : arg27.IsWhole) (arg28 : Memref sig .tc .vmem S1x1x1x512 .f32) (harg28 : arg28.IsWhole) (arg29 : Memref sig .tc .vmem S1x1x1x512 .f32) (harg29 : arg29.IsWhole) (arg30 : Memref sig .tc .vmem S1x1x1x512 .f32) (harg30 : arg30.IsWhole) (arg31 : Memref sig .tc .vmem S1x1x1x512 .f32) (harg31 : arg31.IsWhole) (arg32 : Memref sig .tc .vmem S1x1x1x512 .f32) (harg32 : arg32.IsWhole) (arg33 : Memref sig .tc .vmem S1x1x1x512 .f32) (harg33 : arg33.IsWhole) (arg34 : Memref sig .tc .vmem S128x1 .f32) (harg34 : arg34.IsWhole) (arg35 : Memref sig .tc .vmem S1x1 .f32) (harg35 : arg35.IsWhole) (arg36 : Memref sig .tc .vmem S128x1 .f32) (harg36 : arg36.IsWhole) (hc0 : cond0_0 i) (hc1 : ¬cond0_1 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S1x512x768 .f32) (x7 : Vec F S1x512x768 .f32) (x8 : Vec F S128x768 .f32) (x9 : Vec F S1x1x1x512 .i32) (x10 : Vec F S1x1x1x512 .i32) (x11 : Vec F S1x1x1x512 .i32) (x12 : Vec F S1x1x1x512 .i32) (x13 : Vec F S1x1x1x512 .i32) (x14 : Vec F S1x1x1x512 .i32) (x15 : Vec F S1x1x1x512 .i32) (x16 : Vec F S1x1x1x512 .i32) (x17 : Vec F S1x1x1x512 .f32) (x18 : Vec F S1x1x1x512 .f32) (x19 : Vec F S1x1x1x512 .f32) (x20 : Vec F S1x1x1x512 .f32) (x21 : Vec F S1x1x1x512 .f32) (x22 : Vec F S1x1x1x512 .f32) (x23 : Vec F S1x1x1x512 .f32) (x24 : Vec F S1x1x1x512 .f32) (x25 : Vec F S1x1x1x512 .f32) (x26 : Vec F S1x1x1x512 .f32) (x27 : Vec F S1x1x1x512 .f32) (x28 : Vec F S1x1x1x512 .f32) (x29 : Vec F S1x1x1x512 .f32) (x30 : Vec F S1x1x1x512 .f32) (x31 : Vec F S1x1x1x512 .f32) (x32 : Vec F S1x1x1x512 .f32) (x33 : Vec F S128x1 .f32) : Vec F S1x1 .f32 :=
  VO0_34.read (Elt F) (VO0_34.writes (Elt F) VO0_34.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 x31 x32 x33).1)

/-- Case A's pieces for output 35 tile its block (1 store of `S128x1`), so they cover it. -/
theorem cover0_A_35 (c : Dev nD) (i : grid0.Coords) (arg1 : Memref sig .tc .vmem S1x512x768 .f32) (harg1 : arg1.IsWhole) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S1x512x768 .f32) (harg8 : arg8.IsWhole) (arg9 : Memref sig .tc .vmem S128x768 .f32) (harg9 : arg9.IsWhole) (arg10 : Memref sig .tc .vmem S1x1x1x512 .i32) (harg10 : arg10.IsWhole) (arg11 : Memref sig .tc .vmem S1x1x1x512 .i32) (harg11 : arg11.IsWhole) (arg12 : Memref sig .tc .vmem S1x1x1x512 .i32) (harg12 : arg12.IsWhole) (arg13 : Memref sig .tc .vmem S1x1x1x512 .i32) (harg13 : arg13.IsWhole) (arg14 : Memref sig .tc .vmem S1x1x1x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x1x512 .i32) (harg17 : arg17.IsWhole) (arg18 : Memref sig .tc .vmem S1x1x1x512 .f32) (harg18 : arg18.IsWhole) (arg19 : Memref sig .tc .vmem S1x1x1x512 .f32) (harg19 : arg19.IsWhole) (arg20 : Memref sig .tc .vmem S1x1x1x512 .f32) (harg20 : arg20.IsWhole) (arg21 : Memref sig .tc .vmem S1x1x1x512 .f32) (harg21 : arg21.IsWhole) (arg22 : Memref sig .tc .vmem S1x1x1x512 .f32) (harg22 : arg22.IsWhole) (arg23 : Memref sig .tc .vmem S1x1x1x512 .f32) (harg23 : arg23.IsWhole) (arg24 : Memref sig .tc .vmem S1x1x1x512 .f32) (harg24 : arg24.IsWhole) (arg25 : Memref sig .tc .vmem S1x1x1x512 .f32) (harg25 : arg25.IsWhole) (arg26 : Memref sig .tc .vmem S1x1x1x512 .f32) (harg26 : arg26.IsWhole) (arg27 : Memref sig .tc .vmem S1x1x1x512 .f32) (harg27 : arg27.IsWhole) (arg28 : Memref sig .tc .vmem S1x1x1x512 .f32) (harg28 : arg28.IsWhole) (arg29 : Memref sig .tc .vmem S1x1x1x512 .f32) (harg29 : arg29.IsWhole) (arg30 : Memref sig .tc .vmem S1x1x1x512 .f32) (harg30 : arg30.IsWhole) (arg31 : Memref sig .tc .vmem S1x1x1x512 .f32) (harg31 : arg31.IsWhole) (arg32 : Memref sig .tc .vmem S1x1x1x512 .f32) (harg32 : arg32.IsWhole) (arg33 : Memref sig .tc .vmem S1x1x1x512 .f32) (harg33 : arg33.IsWhole) (arg34 : Memref sig .tc .vmem S128x1 .f32) (harg34 : arg34.IsWhole) (arg35 : Memref sig .tc .vmem S1x1 .f32) (harg35 : arg35.IsWhole) (arg36 : Memref sig .tc .vmem S128x1 .f32) (harg36 : arg36.IsWhole) (hc0 : cond0_0 i) (hc1 : ¬cond0_1 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S1x512x768 .f32) (x7 : Vec F S1x512x768 .f32) (x8 : Vec F S128x768 .f32) (x9 : Vec F S1x1x1x512 .i32) (x10 : Vec F S1x1x1x512 .i32) (x11 : Vec F S1x1x1x512 .i32) (x12 : Vec F S1x1x1x512 .i32) (x13 : Vec F S1x1x1x512 .i32) (x14 : Vec F S1x1x1x512 .i32) (x15 : Vec F S1x1x1x512 .i32) (x16 : Vec F S1x1x1x512 .i32) (x17 : Vec F S1x1x1x512 .f32) (x18 : Vec F S1x1x1x512 .f32) (x19 : Vec F S1x1x1x512 .f32) (x20 : Vec F S1x1x1x512 .f32) (x21 : Vec F S1x1x1x512 .f32) (x22 : Vec F S1x1x1x512 .f32) (x23 : Vec F S1x1x1x512 .f32) (x24 : Vec F S1x1x1x512 .f32) (x25 : Vec F S1x1x1x512 .f32) (x26 : Vec F S1x1x1x512 .f32) (x27 : Vec F S1x1x1x512 .f32) (x28 : Vec F S1x1x1x512 .f32) (x29 : Vec F S1x1x1x512 .f32) (x30 : Vec F S1x1x1x512 .f32) (x31 : Vec F S1x1x1x512 .f32) (x32 : Vec F S1x1x1x512 .f32) (x33 : Vec F S128x1 .f32) (y : S128x1.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 x31 x32 x33).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 x31 x32 x33).2.1 S128x1.size (by sl_kernel_rfl) y

/-- What case A leaves in output 35's staging buffer: its pieces read back over junk. -/
def out0_A_35 (c : Dev nD) (i : grid0.Coords) (arg1 : Memref sig .tc .vmem S1x512x768 .f32) (harg1 : arg1.IsWhole) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S1x512x768 .f32) (harg8 : arg8.IsWhole) (arg9 : Memref sig .tc .vmem S128x768 .f32) (harg9 : arg9.IsWhole) (arg10 : Memref sig .tc .vmem S1x1x1x512 .i32) (harg10 : arg10.IsWhole) (arg11 : Memref sig .tc .vmem S1x1x1x512 .i32) (harg11 : arg11.IsWhole) (arg12 : Memref sig .tc .vmem S1x1x1x512 .i32) (harg12 : arg12.IsWhole) (arg13 : Memref sig .tc .vmem S1x1x1x512 .i32) (harg13 : arg13.IsWhole) (arg14 : Memref sig .tc .vmem S1x1x1x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x1x512 .i32) (harg17 : arg17.IsWhole) (arg18 : Memref sig .tc .vmem S1x1x1x512 .f32) (harg18 : arg18.IsWhole) (arg19 : Memref sig .tc .vmem S1x1x1x512 .f32) (harg19 : arg19.IsWhole) (arg20 : Memref sig .tc .vmem S1x1x1x512 .f32) (harg20 : arg20.IsWhole) (arg21 : Memref sig .tc .vmem S1x1x1x512 .f32) (harg21 : arg21.IsWhole) (arg22 : Memref sig .tc .vmem S1x1x1x512 .f32) (harg22 : arg22.IsWhole) (arg23 : Memref sig .tc .vmem S1x1x1x512 .f32) (harg23 : arg23.IsWhole) (arg24 : Memref sig .tc .vmem S1x1x1x512 .f32) (harg24 : arg24.IsWhole) (arg25 : Memref sig .tc .vmem S1x1x1x512 .f32) (harg25 : arg25.IsWhole) (arg26 : Memref sig .tc .vmem S1x1x1x512 .f32) (harg26 : arg26.IsWhole) (arg27 : Memref sig .tc .vmem S1x1x1x512 .f32) (harg27 : arg27.IsWhole) (arg28 : Memref sig .tc .vmem S1x1x1x512 .f32) (harg28 : arg28.IsWhole) (arg29 : Memref sig .tc .vmem S1x1x1x512 .f32) (harg29 : arg29.IsWhole) (arg30 : Memref sig .tc .vmem S1x1x1x512 .f32) (harg30 : arg30.IsWhole) (arg31 : Memref sig .tc .vmem S1x1x1x512 .f32) (harg31 : arg31.IsWhole) (arg32 : Memref sig .tc .vmem S1x1x1x512 .f32) (harg32 : arg32.IsWhole) (arg33 : Memref sig .tc .vmem S1x1x1x512 .f32) (harg33 : arg33.IsWhole) (arg34 : Memref sig .tc .vmem S128x1 .f32) (harg34 : arg34.IsWhole) (arg35 : Memref sig .tc .vmem S1x1 .f32) (harg35 : arg35.IsWhole) (arg36 : Memref sig .tc .vmem S128x1 .f32) (harg36 : arg36.IsWhole) (hc0 : cond0_0 i) (hc1 : ¬cond0_1 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S1x512x768 .f32) (x7 : Vec F S1x512x768 .f32) (x8 : Vec F S128x768 .f32) (x9 : Vec F S1x1x1x512 .i32) (x10 : Vec F S1x1x1x512 .i32) (x11 : Vec F S1x1x1x512 .i32) (x12 : Vec F S1x1x1x512 .i32) (x13 : Vec F S1x1x1x512 .i32) (x14 : Vec F S1x1x1x512 .i32) (x15 : Vec F S1x1x1x512 .i32) (x16 : Vec F S1x1x1x512 .i32) (x17 : Vec F S1x1x1x512 .f32) (x18 : Vec F S1x1x1x512 .f32) (x19 : Vec F S1x1x1x512 .f32) (x20 : Vec F S1x1x1x512 .f32) (x21 : Vec F S1x1x1x512 .f32) (x22 : Vec F S1x1x1x512 .f32) (x23 : Vec F S1x1x1x512 .f32) (x24 : Vec F S1x1x1x512 .f32) (x25 : Vec F S1x1x1x512 .f32) (x26 : Vec F S1x1x1x512 .f32) (x27 : Vec F S1x1x1x512 .f32) (x28 : Vec F S1x1x1x512 .f32) (x29 : Vec F S1x1x1x512 .f32) (x30 : Vec F S1x1x1x512 .f32) (x31 : Vec F S1x1x1x512 .f32) (x32 : Vec F S1x1x1x512 .f32) (x33 : Vec F S128x1 .f32) : Vec F S128x1 .f32 :=
  VO0_35.read (Elt F) (VO0_35.writes (Elt F) VO0_35.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 x31 x32 x33).2.1)

/-- Case B's pieces for output 34 tile its block (1 store of `S1x1`), so they cover it. -/
theorem cover0_B_34 (c : Dev nD) (i : grid0.Coords) (arg1 : Memref sig .tc .vmem S1x512x768 .f32) (harg1 : arg1.IsWhole) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S1x512x768 .f32) (harg8 : arg8.IsWhole) (arg9 : Memref sig .tc .vmem S128x768 .f32) (harg9 : arg9.IsWhole) (arg10 : Memref sig .tc .vmem S1x1x1x512 .i32) (harg10 : arg10.IsWhole) (arg11 : Memref sig .tc .vmem S1x1x1x512 .i32) (harg11 : arg11.IsWhole) (arg12 : Memref sig .tc .vmem S1x1x1x512 .i32) (harg12 : arg12.IsWhole) (arg13 : Memref sig .tc .vmem S1x1x1x512 .i32) (harg13 : arg13.IsWhole) (arg14 : Memref sig .tc .vmem S1x1x1x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x1x512 .i32) (harg17 : arg17.IsWhole) (arg18 : Memref sig .tc .vmem S1x1x1x512 .f32) (harg18 : arg18.IsWhole) (arg19 : Memref sig .tc .vmem S1x1x1x512 .f32) (harg19 : arg19.IsWhole) (arg20 : Memref sig .tc .vmem S1x1x1x512 .f32) (harg20 : arg20.IsWhole) (arg21 : Memref sig .tc .vmem S1x1x1x512 .f32) (harg21 : arg21.IsWhole) (arg22 : Memref sig .tc .vmem S1x1x1x512 .f32) (harg22 : arg22.IsWhole) (arg23 : Memref sig .tc .vmem S1x1x1x512 .f32) (harg23 : arg23.IsWhole) (arg24 : Memref sig .tc .vmem S1x1x1x512 .f32) (harg24 : arg24.IsWhole) (arg25 : Memref sig .tc .vmem S1x1x1x512 .f32) (harg25 : arg25.IsWhole) (arg26 : Memref sig .tc .vmem S1x1x1x512 .f32) (harg26 : arg26.IsWhole) (arg27 : Memref sig .tc .vmem S1x1x1x512 .f32) (harg27 : arg27.IsWhole) (arg28 : Memref sig .tc .vmem S1x1x1x512 .f32) (harg28 : arg28.IsWhole) (arg29 : Memref sig .tc .vmem S1x1x1x512 .f32) (harg29 : arg29.IsWhole) (arg30 : Memref sig .tc .vmem S1x1x1x512 .f32) (harg30 : arg30.IsWhole) (arg31 : Memref sig .tc .vmem S1x1x1x512 .f32) (harg31 : arg31.IsWhole) (arg32 : Memref sig .tc .vmem S1x1x1x512 .f32) (harg32 : arg32.IsWhole) (arg33 : Memref sig .tc .vmem S1x1x1x512 .f32) (harg33 : arg33.IsWhole) (arg34 : Memref sig .tc .vmem S128x1 .f32) (harg34 : arg34.IsWhole) (arg35 : Memref sig .tc .vmem S1x1 .f32) (harg35 : arg35.IsWhole) (arg36 : Memref sig .tc .vmem S128x1 .f32) (harg36 : arg36.IsWhole) (hc0 : ¬cond0_0 i) (hc1 : cond0_1 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S1x512x768 .f32) (x7 : Vec F S1x512x768 .f32) (x8 : Vec F S128x768 .f32) (x9 : Vec F S1x1x1x512 .i32) (x10 : Vec F S1x1x1x512 .i32) (x11 : Vec F S1x1x1x512 .i32) (x12 : Vec F S1x1x1x512 .i32) (x13 : Vec F S1x1x1x512 .i32) (x14 : Vec F S1x1x1x512 .i32) (x15 : Vec F S1x1x1x512 .i32) (x16 : Vec F S1x1x1x512 .i32) (x17 : Vec F S1x1x1x512 .f32) (x18 : Vec F S1x1x1x512 .f32) (x19 : Vec F S1x1x1x512 .f32) (x20 : Vec F S1x1x1x512 .f32) (x21 : Vec F S1x1x1x512 .f32) (x22 : Vec F S1x1x1x512 .f32) (x23 : Vec F S1x1x1x512 .f32) (x24 : Vec F S1x1x1x512 .f32) (x25 : Vec F S1x1x1x512 .f32) (x26 : Vec F S1x1x1x512 .f32) (x27 : Vec F S1x1x1x512 .f32) (x28 : Vec F S1x1x1x512 .f32) (x29 : Vec F S1x1x1x512 .f32) (x30 : Vec F S1x1x1x512 .f32) (x31 : Vec F S1x1x1x512 .f32) (x32 : Vec F S1x1x1x512 .f32) (x33 : Vec F S128x1 .f32) (xo34 : Vec F S1x1 .f32) (y : S1x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 x31 x32 x33 xo34).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 x31 x32 x33 xo34).1 S1x1.size (by sl_kernel_rfl) y

/-- What case B leaves in output 34's staging buffer: its pieces read back over junk. -/
def out0_B_34 (c : Dev nD) (i : grid0.Coords) (arg1 : Memref sig .tc .vmem S1x512x768 .f32) (harg1 : arg1.IsWhole) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S1x512x768 .f32) (harg8 : arg8.IsWhole) (arg9 : Memref sig .tc .vmem S128x768 .f32) (harg9 : arg9.IsWhole) (arg10 : Memref sig .tc .vmem S1x1x1x512 .i32) (harg10 : arg10.IsWhole) (arg11 : Memref sig .tc .vmem S1x1x1x512 .i32) (harg11 : arg11.IsWhole) (arg12 : Memref sig .tc .vmem S1x1x1x512 .i32) (harg12 : arg12.IsWhole) (arg13 : Memref sig .tc .vmem S1x1x1x512 .i32) (harg13 : arg13.IsWhole) (arg14 : Memref sig .tc .vmem S1x1x1x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x1x512 .i32) (harg17 : arg17.IsWhole) (arg18 : Memref sig .tc .vmem S1x1x1x512 .f32) (harg18 : arg18.IsWhole) (arg19 : Memref sig .tc .vmem S1x1x1x512 .f32) (harg19 : arg19.IsWhole) (arg20 : Memref sig .tc .vmem S1x1x1x512 .f32) (harg20 : arg20.IsWhole) (arg21 : Memref sig .tc .vmem S1x1x1x512 .f32) (harg21 : arg21.IsWhole) (arg22 : Memref sig .tc .vmem S1x1x1x512 .f32) (harg22 : arg22.IsWhole) (arg23 : Memref sig .tc .vmem S1x1x1x512 .f32) (harg23 : arg23.IsWhole) (arg24 : Memref sig .tc .vmem S1x1x1x512 .f32) (harg24 : arg24.IsWhole) (arg25 : Memref sig .tc .vmem S1x1x1x512 .f32) (harg25 : arg25.IsWhole) (arg26 : Memref sig .tc .vmem S1x1x1x512 .f32) (harg26 : arg26.IsWhole) (arg27 : Memref sig .tc .vmem S1x1x1x512 .f32) (harg27 : arg27.IsWhole) (arg28 : Memref sig .tc .vmem S1x1x1x512 .f32) (harg28 : arg28.IsWhole) (arg29 : Memref sig .tc .vmem S1x1x1x512 .f32) (harg29 : arg29.IsWhole) (arg30 : Memref sig .tc .vmem S1x1x1x512 .f32) (harg30 : arg30.IsWhole) (arg31 : Memref sig .tc .vmem S1x1x1x512 .f32) (harg31 : arg31.IsWhole) (arg32 : Memref sig .tc .vmem S1x1x1x512 .f32) (harg32 : arg32.IsWhole) (arg33 : Memref sig .tc .vmem S1x1x1x512 .f32) (harg33 : arg33.IsWhole) (arg34 : Memref sig .tc .vmem S128x1 .f32) (harg34 : arg34.IsWhole) (arg35 : Memref sig .tc .vmem S1x1 .f32) (harg35 : arg35.IsWhole) (arg36 : Memref sig .tc .vmem S128x1 .f32) (harg36 : arg36.IsWhole) (hc0 : ¬cond0_0 i) (hc1 : cond0_1 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S1x512x768 .f32) (x7 : Vec F S1x512x768 .f32) (x8 : Vec F S128x768 .f32) (x9 : Vec F S1x1x1x512 .i32) (x10 : Vec F S1x1x1x512 .i32) (x11 : Vec F S1x1x1x512 .i32) (x12 : Vec F S1x1x1x512 .i32) (x13 : Vec F S1x1x1x512 .i32) (x14 : Vec F S1x1x1x512 .i32) (x15 : Vec F S1x1x1x512 .i32) (x16 : Vec F S1x1x1x512 .i32) (x17 : Vec F S1x1x1x512 .f32) (x18 : Vec F S1x1x1x512 .f32) (x19 : Vec F S1x1x1x512 .f32) (x20 : Vec F S1x1x1x512 .f32) (x21 : Vec F S1x1x1x512 .f32) (x22 : Vec F S1x1x1x512 .f32) (x23 : Vec F S1x1x1x512 .f32) (x24 : Vec F S1x1x1x512 .f32) (x25 : Vec F S1x1x1x512 .f32) (x26 : Vec F S1x1x1x512 .f32) (x27 : Vec F S1x1x1x512 .f32) (x28 : Vec F S1x1x1x512 .f32) (x29 : Vec F S1x1x1x512 .f32) (x30 : Vec F S1x1x1x512 .f32) (x31 : Vec F S1x1x1x512 .f32) (x32 : Vec F S1x1x1x512 .f32) (x33 : Vec F S128x1 .f32) (xo34 : Vec F S1x1 .f32) : Vec F S1x1 .f32 :=
  VO0_34.read (Elt F) (VO0_34.writes (Elt F) VO0_34.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 x31 x32 x33 xo34).1)

/-- Case B's pieces for output 35 tile its block (1 store of `S128x1`), so they cover it. -/
theorem cover0_B_35 (c : Dev nD) (i : grid0.Coords) (arg1 : Memref sig .tc .vmem S1x512x768 .f32) (harg1 : arg1.IsWhole) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S1x512x768 .f32) (harg8 : arg8.IsWhole) (arg9 : Memref sig .tc .vmem S128x768 .f32) (harg9 : arg9.IsWhole) (arg10 : Memref sig .tc .vmem S1x1x1x512 .i32) (harg10 : arg10.IsWhole) (arg11 : Memref sig .tc .vmem S1x1x1x512 .i32) (harg11 : arg11.IsWhole) (arg12 : Memref sig .tc .vmem S1x1x1x512 .i32) (harg12 : arg12.IsWhole) (arg13 : Memref sig .tc .vmem S1x1x1x512 .i32) (harg13 : arg13.IsWhole) (arg14 : Memref sig .tc .vmem S1x1x1x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x1x512 .i32) (harg17 : arg17.IsWhole) (arg18 : Memref sig .tc .vmem S1x1x1x512 .f32) (harg18 : arg18.IsWhole) (arg19 : Memref sig .tc .vmem S1x1x1x512 .f32) (harg19 : arg19.IsWhole) (arg20 : Memref sig .tc .vmem S1x1x1x512 .f32) (harg20 : arg20.IsWhole) (arg21 : Memref sig .tc .vmem S1x1x1x512 .f32) (harg21 : arg21.IsWhole) (arg22 : Memref sig .tc .vmem S1x1x1x512 .f32) (harg22 : arg22.IsWhole) (arg23 : Memref sig .tc .vmem S1x1x1x512 .f32) (harg23 : arg23.IsWhole) (arg24 : Memref sig .tc .vmem S1x1x1x512 .f32) (harg24 : arg24.IsWhole) (arg25 : Memref sig .tc .vmem S1x1x1x512 .f32) (harg25 : arg25.IsWhole) (arg26 : Memref sig .tc .vmem S1x1x1x512 .f32) (harg26 : arg26.IsWhole) (arg27 : Memref sig .tc .vmem S1x1x1x512 .f32) (harg27 : arg27.IsWhole) (arg28 : Memref sig .tc .vmem S1x1x1x512 .f32) (harg28 : arg28.IsWhole) (arg29 : Memref sig .tc .vmem S1x1x1x512 .f32) (harg29 : arg29.IsWhole) (arg30 : Memref sig .tc .vmem S1x1x1x512 .f32) (harg30 : arg30.IsWhole) (arg31 : Memref sig .tc .vmem S1x1x1x512 .f32) (harg31 : arg31.IsWhole) (arg32 : Memref sig .tc .vmem S1x1x1x512 .f32) (harg32 : arg32.IsWhole) (arg33 : Memref sig .tc .vmem S1x1x1x512 .f32) (harg33 : arg33.IsWhole) (arg34 : Memref sig .tc .vmem S128x1 .f32) (harg34 : arg34.IsWhole) (arg35 : Memref sig .tc .vmem S1x1 .f32) (harg35 : arg35.IsWhole) (arg36 : Memref sig .tc .vmem S128x1 .f32) (harg36 : arg36.IsWhole) (hc0 : ¬cond0_0 i) (hc1 : cond0_1 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S1x512x768 .f32) (x7 : Vec F S1x512x768 .f32) (x8 : Vec F S128x768 .f32) (x9 : Vec F S1x1x1x512 .i32) (x10 : Vec F S1x1x1x512 .i32) (x11 : Vec F S1x1x1x512 .i32) (x12 : Vec F S1x1x1x512 .i32) (x13 : Vec F S1x1x1x512 .i32) (x14 : Vec F S1x1x1x512 .i32) (x15 : Vec F S1x1x1x512 .i32) (x16 : Vec F S1x1x1x512 .i32) (x17 : Vec F S1x1x1x512 .f32) (x18 : Vec F S1x1x1x512 .f32) (x19 : Vec F S1x1x1x512 .f32) (x20 : Vec F S1x1x1x512 .f32) (x21 : Vec F S1x1x1x512 .f32) (x22 : Vec F S1x1x1x512 .f32) (x23 : Vec F S1x1x1x512 .f32) (x24 : Vec F S1x1x1x512 .f32) (x25 : Vec F S1x1x1x512 .f32) (x26 : Vec F S1x1x1x512 .f32) (x27 : Vec F S1x1x1x512 .f32) (x28 : Vec F S1x1x1x512 .f32) (x29 : Vec F S1x1x1x512 .f32) (x30 : Vec F S1x1x1x512 .f32) (x31 : Vec F S1x1x1x512 .f32) (x32 : Vec F S1x1x1x512 .f32) (x33 : Vec F S128x1 .f32) (xo34 : Vec F S1x1 .f32) (y : S128x1.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 x31 x32 x33 xo34).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 x31 x32 x33 xo34).2.1 S128x1.size (by sl_kernel_rfl) y

/-- What case B leaves in output 35's staging buffer: its pieces read back over junk. -/
def out0_B_35 (c : Dev nD) (i : grid0.Coords) (arg1 : Memref sig .tc .vmem S1x512x768 .f32) (harg1 : arg1.IsWhole) (arg2 : Memref sig .tc .vmem S1x512x768 .f32) (harg2 : arg2.IsWhole) (arg3 : Memref sig .tc .vmem S1x512x768 .f32) (harg3 : arg3.IsWhole) (arg4 : Memref sig .tc .vmem S1x512x768 .f32) (harg4 : arg4.IsWhole) (arg5 : Memref sig .tc .vmem S1x512x768 .f32) (harg5 : arg5.IsWhole) (arg6 : Memref sig .tc .vmem S1x512x768 .f32) (harg6 : arg6.IsWhole) (arg7 : Memref sig .tc .vmem S1x512x768 .f32) (harg7 : arg7.IsWhole) (arg8 : Memref sig .tc .vmem S1x512x768 .f32) (harg8 : arg8.IsWhole) (arg9 : Memref sig .tc .vmem S128x768 .f32) (harg9 : arg9.IsWhole) (arg10 : Memref sig .tc .vmem S1x1x1x512 .i32) (harg10 : arg10.IsWhole) (arg11 : Memref sig .tc .vmem S1x1x1x512 .i32) (harg11 : arg11.IsWhole) (arg12 : Memref sig .tc .vmem S1x1x1x512 .i32) (harg12 : arg12.IsWhole) (arg13 : Memref sig .tc .vmem S1x1x1x512 .i32) (harg13 : arg13.IsWhole) (arg14 : Memref sig .tc .vmem S1x1x1x512 .i32) (harg14 : arg14.IsWhole) (arg15 : Memref sig .tc .vmem S1x1x1x512 .i32) (harg15 : arg15.IsWhole) (arg16 : Memref sig .tc .vmem S1x1x1x512 .i32) (harg16 : arg16.IsWhole) (arg17 : Memref sig .tc .vmem S1x1x1x512 .i32) (harg17 : arg17.IsWhole) (arg18 : Memref sig .tc .vmem S1x1x1x512 .f32) (harg18 : arg18.IsWhole) (arg19 : Memref sig .tc .vmem S1x1x1x512 .f32) (harg19 : arg19.IsWhole) (arg20 : Memref sig .tc .vmem S1x1x1x512 .f32) (harg20 : arg20.IsWhole) (arg21 : Memref sig .tc .vmem S1x1x1x512 .f32) (harg21 : arg21.IsWhole) (arg22 : Memref sig .tc .vmem S1x1x1x512 .f32) (harg22 : arg22.IsWhole) (arg23 : Memref sig .tc .vmem S1x1x1x512 .f32) (harg23 : arg23.IsWhole) (arg24 : Memref sig .tc .vmem S1x1x1x512 .f32) (harg24 : arg24.IsWhole) (arg25 : Memref sig .tc .vmem S1x1x1x512 .f32) (harg25 : arg25.IsWhole) (arg26 : Memref sig .tc .vmem S1x1x1x512 .f32) (harg26 : arg26.IsWhole) (arg27 : Memref sig .tc .vmem S1x1x1x512 .f32) (harg27 : arg27.IsWhole) (arg28 : Memref sig .tc .vmem S1x1x1x512 .f32) (harg28 : arg28.IsWhole) (arg29 : Memref sig .tc .vmem S1x1x1x512 .f32) (harg29 : arg29.IsWhole) (arg30 : Memref sig .tc .vmem S1x1x1x512 .f32) (harg30 : arg30.IsWhole) (arg31 : Memref sig .tc .vmem S1x1x1x512 .f32) (harg31 : arg31.IsWhole) (arg32 : Memref sig .tc .vmem S1x1x1x512 .f32) (harg32 : arg32.IsWhole) (arg33 : Memref sig .tc .vmem S1x1x1x512 .f32) (harg33 : arg33.IsWhole) (arg34 : Memref sig .tc .vmem S128x1 .f32) (harg34 : arg34.IsWhole) (arg35 : Memref sig .tc .vmem S1x1 .f32) (harg35 : arg35.IsWhole) (arg36 : Memref sig .tc .vmem S128x1 .f32) (harg36 : arg36.IsWhole) (hc0 : ¬cond0_0 i) (hc1 : cond0_1 i)
    (x0 : Vec F S1x512x768 .f32) (x1 : Vec F S1x512x768 .f32) (x2 : Vec F S1x512x768 .f32) (x3 : Vec F S1x512x768 .f32) (x4 : Vec F S1x512x768 .f32) (x5 : Vec F S1x512x768 .f32) (x6 : Vec F S1x512x768 .f32) (x7 : Vec F S1x512x768 .f32) (x8 : Vec F S128x768 .f32) (x9 : Vec F S1x1x1x512 .i32) (x10 : Vec F S1x1x1x512 .i32) (x11 : Vec F S1x1x1x512 .i32) (x12 : Vec F S1x1x1x512 .i32) (x13 : Vec F S1x1x1x512 .i32) (x14 : Vec F S1x1x1x512 .i32) (x15 : Vec F S1x1x1x512 .i32) (x16 : Vec F S1x1x1x512 .i32) (x17 : Vec F S1x1x1x512 .f32) (x18 : Vec F S1x1x1x512 .f32) (x19 : Vec F S1x1x1x512 .f32) (x20 : Vec F S1x1x1x512 .f32) (x21 : Vec F S1x1x1x512 .f32) (x22 : Vec F S1x1x1x512 .f32) (x23 : Vec F S1x1x1x512 .f32) (x24 : Vec F S1x1x1x512 .f32) (x25 : Vec F S1x1x1x512 .f32) (x26 : Vec F S1x1x1x512 .f32) (x27 : Vec F S1x1x1x512 .f32) (x28 : Vec F S1x1x1x512 .f32) (x29 : Vec F S1x1x1x512 .f32) (x30 : Vec F S1x1x1x512 .f32) (x31 : Vec F S1x1x1x512 .f32) (x32 : Vec F S1x1x1x512 .f32) (x33 : Vec F S128x1 .f32) (xo34 : Vec F S1x1 .f32) : Vec F S128x1 .f32 :=
  VO0_35.read (Elt F) (VO0_35.writes (Elt F) VO0_35.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 hc0 hc1 x0 x1 x2 x3 x4 x5 x6 x7 x8 x9 x10 x11 x12 x13 x14 x15 x16 x17 x18 x19 x20 x21 x22 x23 x24 x25 x26 x27 x28 x29 x30 x31 x32 x33 xo34).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S1x1 .f32 × Vec F S128x1 .f32
  | 0, hn => (out0_A_34 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) (ms0_30 ⟨0, hn⟩) (hs0_30 ⟨0, hn⟩) (ms0_31 ⟨0, hn⟩) (hs0_31 ⟨0, hn⟩) (ms0_32 ⟨0, hn⟩) (hs0_32 ⟨0, hn⟩) (ms0_33 ⟨0, hn⟩) (hs0_33 ⟨0, hn⟩) (ms0_34 ⟨0, hn⟩) (hs0_34 ⟨0, hn⟩) (ms0_35 ⟨0, hn⟩) (hs0_35 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩) (iblk m c 26 ⟨0, hn⟩) (iblk m c 27 ⟨0, hn⟩) (iblk m c 28 ⟨0, hn⟩) (iblk m c 29 ⟨0, hn⟩) (iblk m c 30 ⟨0, hn⟩) (iblk m c 31 ⟨0, hn⟩) (iblk m c 32 ⟨0, hn⟩) (iblk m c 33 ⟨0, hn⟩), out0_A_35 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) (ms0_18 ⟨0, hn⟩) (hs0_18 ⟨0, hn⟩) (ms0_19 ⟨0, hn⟩) (hs0_19 ⟨0, hn⟩) (ms0_20 ⟨0, hn⟩) (hs0_20 ⟨0, hn⟩) (ms0_21 ⟨0, hn⟩) (hs0_21 ⟨0, hn⟩) (ms0_22 ⟨0, hn⟩) (hs0_22 ⟨0, hn⟩) (ms0_23 ⟨0, hn⟩) (hs0_23 ⟨0, hn⟩) (ms0_24 ⟨0, hn⟩) (hs0_24 ⟨0, hn⟩) (ms0_25 ⟨0, hn⟩) (hs0_25 ⟨0, hn⟩) (ms0_26 ⟨0, hn⟩) (hs0_26 ⟨0, hn⟩) (ms0_27 ⟨0, hn⟩) (hs0_27 ⟨0, hn⟩) (ms0_28 ⟨0, hn⟩) (hs0_28 ⟨0, hn⟩) (ms0_29 ⟨0, hn⟩) (hs0_29 ⟨0, hn⟩) (ms0_30 ⟨0, hn⟩) (hs0_30 ⟨0, hn⟩) (ms0_31 ⟨0, hn⟩) (hs0_31 ⟨0, hn⟩) (ms0_32 ⟨0, hn⟩) (hs0_32 ⟨0, hn⟩) (ms0_33 ⟨0, hn⟩) (hs0_33 ⟨0, hn⟩) (ms0_34 ⟨0, hn⟩) (hs0_34 ⟨0, hn⟩) (ms0_35 ⟨0, hn⟩) (hs0_35 ⟨0, hn⟩) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩) (iblk m c 16 ⟨0, hn⟩) (iblk m c 17 ⟨0, hn⟩) (iblk m c 18 ⟨0, hn⟩) (iblk m c 19 ⟨0, hn⟩) (iblk m c 20 ⟨0, hn⟩) (iblk m c 21 ⟨0, hn⟩) (iblk m c 22 ⟨0, hn⟩) (iblk m c 23 ⟨0, hn⟩) (iblk m c 24 ⟨0, hn⟩) (iblk m c 25 ⟨0, hn⟩) (iblk m c 26 ⟨0, hn⟩) (iblk m c 27 ⟨0, hn⟩) (iblk m c 28 ⟨0, hn⟩) (iblk m c 29 ⟨0, hn⟩) (iblk m c 30 ⟨0, hn⟩) (iblk m c 31 ⟨0, hn⟩) (iblk m c 32 ⟨0, hn⟩) (iblk m c 33 ⟨0, hn⟩))
  | n + 1, hn =>
    if h0 : (n + 1) % 4 = 0 then
      if h1 : 1 ≤ (n + 1) then
        False.elim (by have hN : n + 1 < 4 := lt_of_lt_of_eq hn (show cfg0.N = 4 from N_0); omega)
      else
        (out0_A_34 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) (ms0_30 ⟨n + 1, hn⟩) (hs0_30 ⟨n + 1, hn⟩) (ms0_31 ⟨n + 1, hn⟩) (hs0_31 ⟨n + 1, hn⟩) (ms0_32 ⟨n + 1, hn⟩) (hs0_32 ⟨n + 1, hn⟩) (ms0_33 ⟨n + 1, hn⟩) (hs0_33 ⟨n + 1, hn⟩) (ms0_34 ⟨n + 1, hn⟩) (hs0_34 ⟨n + 1, hn⟩) (ms0_35 ⟨n + 1, hn⟩) (hs0_35 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (iblk m c 26 ⟨n + 1, hn⟩) (iblk m c 27 ⟨n + 1, hn⟩) (iblk m c 28 ⟨n + 1, hn⟩) (iblk m c 29 ⟨n + 1, hn⟩) (iblk m c 30 ⟨n + 1, hn⟩) (iblk m c 31 ⟨n + 1, hn⟩) (iblk m c 32 ⟨n + 1, hn⟩) (iblk m c 33 ⟨n + 1, hn⟩), out0_A_35 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) (ms0_30 ⟨n + 1, hn⟩) (hs0_30 ⟨n + 1, hn⟩) (ms0_31 ⟨n + 1, hn⟩) (hs0_31 ⟨n + 1, hn⟩) (ms0_32 ⟨n + 1, hn⟩) (hs0_32 ⟨n + 1, hn⟩) (ms0_33 ⟨n + 1, hn⟩) (hs0_33 ⟨n + 1, hn⟩) (ms0_34 ⟨n + 1, hn⟩) (hs0_34 ⟨n + 1, hn⟩) (ms0_35 ⟨n + 1, hn⟩) (hs0_35 ⟨n + 1, hn⟩) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (iblk m c 26 ⟨n + 1, hn⟩) (iblk m c 27 ⟨n + 1, hn⟩) (iblk m c 28 ⟨n + 1, hn⟩) (iblk m c 29 ⟨n + 1, hn⟩) (iblk m c 30 ⟨n + 1, hn⟩) (iblk m c 31 ⟨n + 1, hn⟩) (iblk m c 32 ⟨n + 1, hn⟩) (iblk m c 33 ⟨n + 1, hn⟩))
    else
      if h1 : 1 ≤ (n + 1) then
        (out0_B_34 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) (ms0_30 ⟨n + 1, hn⟩) (hs0_30 ⟨n + 1, hn⟩) (ms0_31 ⟨n + 1, hn⟩) (hs0_31 ⟨n + 1, hn⟩) (ms0_32 ⟨n + 1, hn⟩) (hs0_32 ⟨n + 1, hn⟩) (ms0_33 ⟨n + 1, hn⟩) (hs0_33 ⟨n + 1, hn⟩) (ms0_34 ⟨n + 1, hn⟩) (hs0_34 ⟨n + 1, hn⟩) (ms0_35 ⟨n + 1, hn⟩) (hs0_35 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (iblk m c 26 ⟨n + 1, hn⟩) (iblk m c 27 ⟨n + 1, hn⟩) (iblk m c 28 ⟨n + 1, hn⟩) (iblk m c 29 ⟨n + 1, hn⟩) (iblk m c 30 ⟨n + 1, hn⟩) (iblk m c 31 ⟨n + 1, hn⟩) (iblk m c 32 ⟨n + 1, hn⟩) (iblk m c 33 ⟨n + 1, hn⟩) (outsAt0 c n (Nat.lt_of_succ_lt hn)).1, out0_B_35 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (ms0_18 ⟨n + 1, hn⟩) (hs0_18 ⟨n + 1, hn⟩) (ms0_19 ⟨n + 1, hn⟩) (hs0_19 ⟨n + 1, hn⟩) (ms0_20 ⟨n + 1, hn⟩) (hs0_20 ⟨n + 1, hn⟩) (ms0_21 ⟨n + 1, hn⟩) (hs0_21 ⟨n + 1, hn⟩) (ms0_22 ⟨n + 1, hn⟩) (hs0_22 ⟨n + 1, hn⟩) (ms0_23 ⟨n + 1, hn⟩) (hs0_23 ⟨n + 1, hn⟩) (ms0_24 ⟨n + 1, hn⟩) (hs0_24 ⟨n + 1, hn⟩) (ms0_25 ⟨n + 1, hn⟩) (hs0_25 ⟨n + 1, hn⟩) (ms0_26 ⟨n + 1, hn⟩) (hs0_26 ⟨n + 1, hn⟩) (ms0_27 ⟨n + 1, hn⟩) (hs0_27 ⟨n + 1, hn⟩) (ms0_28 ⟨n + 1, hn⟩) (hs0_28 ⟨n + 1, hn⟩) (ms0_29 ⟨n + 1, hn⟩) (hs0_29 ⟨n + 1, hn⟩) (ms0_30 ⟨n + 1, hn⟩) (hs0_30 ⟨n + 1, hn⟩) (ms0_31 ⟨n + 1, hn⟩) (hs0_31 ⟨n + 1, hn⟩) (ms0_32 ⟨n + 1, hn⟩) (hs0_32 ⟨n + 1, hn⟩) (ms0_33 ⟨n + 1, hn⟩) (hs0_33 ⟨n + 1, hn⟩) (ms0_34 ⟨n + 1, hn⟩) (hs0_34 ⟨n + 1, hn⟩) (ms0_35 ⟨n + 1, hn⟩) (hs0_35 ⟨n + 1, hn⟩) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (iblk m c 16 ⟨n + 1, hn⟩) (iblk m c 17 ⟨n + 1, hn⟩) (iblk m c 18 ⟨n + 1, hn⟩) (iblk m c 19 ⟨n + 1, hn⟩) (iblk m c 20 ⟨n + 1, hn⟩) (iblk m c 21 ⟨n + 1, hn⟩) (iblk m c 22 ⟨n + 1, hn⟩) (iblk m c 23 ⟨n + 1, hn⟩) (iblk m c 24 ⟨n + 1, hn⟩) (iblk m c 25 ⟨n + 1, hn⟩) (iblk m c 26 ⟨n + 1, hn⟩) (iblk m c 27 ⟨n + 1, hn⟩) (iblk m c 28 ⟨n + 1, hn⟩) (iblk m c 29 ⟨n + 1, hn⟩) (iblk m c 30 ⟨n + 1, hn⟩) (iblk m c 31 ⟨n + 1, hn⟩) (iblk m c 32 ⟨n + 1, hn⟩) (iblk m c 33 ⟨n + 1, hn⟩) (outsAt0 c n (Nat.lt_of_succ_lt hn)).1)
      else
        False.elim (by have hN : n + 1 < 4 := lt_of_lt_of_eq hn (show cfg0.N = 4 from N_0); omega)

/-- `outsAt0` at a point of case A: that case's contents. -/
theorem outsAt0_A (c : Dev nD) (t : Fin cfg0.N) (h0 : t.val % 4 = 0) (h1 : ¬1 ≤ t.val) :
    outsAt0 m c t.val t.isLt = (out0_A_34 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t), out0_A_35 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 4 = 0) (h1 : 1 ≤ t.val) :
    outsAt0 m c t.val t.isLt = (out0_B_34 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (outsAt0 m c (t.val - 1) (Nat.lt_of_le_of_lt (Nat.sub_le _ _) t.isLt)).1, out0_B_35 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (outsAt0 m c (t.val - 1) (Nat.lt_of_le_of_lt (Nat.sub_le _ _) t.isLt)).1) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => (outsAt0 m c t.val t.isLt).1
    | ⟨35, _⟩ => (outsAt0 m c t.val t.isLt).2
    | ⟨_ + 36, h⟩ => absurd h (Nat.not_lt.2 (Nat.le_add_left _ _))
  Φ _ := Pipeline.ΦA spec0 c
  q w := Pipeline.shareOf spec0 w
  owed _ := 0

/-- The proof data's arrays are the region-entry contents: the proof data's definition says so. -/
theorem A_eq (c : Dev nD) (w : Fin cfg0.W) : (dats m 0 c).A w = V m c (Pipeline.arrRef spec0 w) := by
  dsimp only [dats]

/-- What the body leaves, window by window (from the proof data's definition). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = (outsAt0 m c t.val t.isLt).1 := by dsimp only [dats]
theorem after0_35 (c : Dev nD) (t : Fin cfg0.N) : (dats m 0 c).after 35 t = (outsAt0 m c t.val t.isLt).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d

/-- Output 34's contents CARRY through the points that leave it idle: at such a point, its buffer not fresh, the proof data's
    `after` is the point before's (the case there stores nothing into the window and its term says so; a case that stores
    into it is not idle there by `liveAt0_34_κ`) — the hypothesis of Lib/Pipeline/TableIdle.lean `Dat.before_out_traj`. -/
theorem hcarry0_34 (c : Dev nD) : ∀ (t : Fin cfg0.N) (_ : t.val ≠ 0), cfg0.idle 34 (grid0.coords t) = true → cfg0.fresh 34 t.val = false →
    (dats m 0 c).after 34 t = (dats m 0 c).after 34 ⟨t.val - 1, by omega⟩ := by
  intro t _ hi _
  have hN : t.val < 4 := lt_of_lt_of_eq t.isLt (show cfg0.N = 4 from N_0)
  rw [after0_34, after0_34]
  by_cases h0 : t.val % 4 = 0
  · by_cases h1 : 1 ≤ t.val
    · exfalso; omega
    · rw [liveAt0_34_A t ((hcond0_0 t).mpr h0) (fun h => h1 ((hcond0_1 t).mp h))] at hi
      exact absurd hi Bool.false_ne_true
  · by_cases h1 : 1 ≤ t.val
    · rw [liveAt0_34_B t (fun h => h0 ((hcond0_0 t).mp h)) ((hcond0_1 t).mpr h1)] at hi
      exact absurd hi Bool.false_ne_true
    · exfalso; omega
/-- At a point of case B output 34's current staging buffer holds what the point before left: the buffer is not fresh
    there (`notFresh0_34_B`: stored into since the region's entry or the last write-back, carried through the points that
    leave it idle by `hcarry0_34`; Lib/Pipeline/TableIdle.lean `Dat.before_out_traj`). -/
theorem before0_34_B (c : Dev nD) (t : Fin cfg0.N) (h0 : ¬t.val % 4 = 0) (h1 : 1 ≤ t.val) (d) :
    (dats m 0 c).before 34 t d = (outsAt0 m c (t.val - 1) (Nat.lt_of_le_of_lt (Nat.sub_le _ _) t.isLt)).1 := by
  rw [Dat.before_out_traj _ 34 rfl (fun _ _ => rfl) (hcarry0_34 m c) t.val t rfl d,
    if_neg (by rw [notFresh0_34_B t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t
    ∗ (dats m 0 c).leavesExact 30 t
    ∗ (dats m 0 c).leavesExact 31 t
    ∗ (dats m 0 c).leavesExact 32 t
    ∗ (dats m 0 c).leavesExact 33 t
    ∗ (dats m 0 c).leavesExact 34 t
    ∗ (dats m 0 c).leavesExact 35 t)

set_option maxHeartbeats 7200000 in
/-- The body at any point: the inputs' memrefs hold their blocks (`before0_W`); the closed forms say which case the point is in (`by_cases`), an output the case reads before covering holds what the point before left (`before0_W_κ`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33]
  rw [show (dats m 0 c).Φ t.succ = (dats m 0 c).Φ t.castSucc from rfl,
    show (dats m 0 c).owesAt () t.succ = (dats m 0 c).owesAt () t.castSucc from rfl]
  have hN : t.val < 4 := lt_of_lt_of_eq t.isLt (show cfg0.N = 4 from N_0)
  by_cases h0 : t.val % 4 = 0
  · by_cases h1 : 1 ≤ t.val
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [show (dats m 0 c).leavesExact 24 t = owns (c : Thread nD τ) (ms0_24 t) fullShare ((dats m 0 c).after 24 t) from by
      unfold Dat.leavesExact; rw [liveAt0_24 t], after0_24]
      rw [show (dats m 0 c).leavesExact 25 t = owns (c : Thread nD τ) (ms0_25 t) fullShare ((dats m 0 c).after 25 t) from by
      unfold Dat.leavesExact; rw [liveAt0_25 t], after0_25]
      rw [show (dats m 0 c).leavesExact 26 t = owns (c : Thread nD τ) (ms0_26 t) fullShare ((dats m 0 c).after 26 t) from by
      unfold Dat.leavesExact; rw [liveAt0_26 t], after0_26]
      rw [show (dats m 0 c).leavesExact 27 t = owns (c : Thread nD τ) (ms0_27 t) fullShare ((dats m 0 c).after 27 t) from by
      unfold Dat.leavesExact; rw [liveAt0_27 t], after0_27]
      rw [show (dats m 0 c).leavesExact 28 t = owns (c : Thread nD τ) (ms0_28 t) fullShare ((dats m 0 c).after 28 t) from by
      unfold Dat.leavesExact; rw [liveAt0_28 t], after0_28]
      rw [show (dats m 0 c).leavesExact 29 t = owns (c : Thread nD τ) (ms0_29 t) fullShare ((dats m 0 c).after 29 t) from by
      unfold Dat.leavesExact; rw [liveAt0_29 t], after0_29]
      rw [show (dats m 0 c).leavesExact 30 t = owns (c : Thread nD τ) (ms0_30 t) fullShare ((dats m 0 c).after 30 t) from by
      unfold Dat.leavesExact; rw [liveAt0_30 t], after0_30]
      rw [show (dats m 0 c).leavesExact 31 t = owns (c : Thread nD τ) (ms0_31 t) fullShare ((dats m 0 c).after 31 t) from by
      unfold Dat.leavesExact; rw [liveAt0_31 t], after0_31]
      rw [show (dats m 0 c).leavesExact 32 t = owns (c : Thread nD τ) (ms0_32 t) fullShare ((dats m 0 c).after 32 t) from by
      unfold Dat.leavesExact; rw [liveAt0_32 t], after0_32]
      rw [show (dats m 0 c).leavesExact 33 t = owns (c : Thread nD τ) (ms0_33 t) fullShare ((dats m 0 c).after 33 t) from by
      unfold Dat.leavesExact; rw [liveAt0_33 t], after0_33]
      rw [show (dats m 0 c).leavesExact 34 t = owns (c : Thread nD τ) (ms0_34 t) fullShare ((dats m 0 c).after 34 t) from by
      unfold Dat.leavesExact; rw [liveAt0_34_A t ((hcond0_0 t).mpr h0) (fun h => h1 ((hcond0_1 t).mp h))], after0_34]
      rw [show (dats m 0 c).leavesExact 35 t = owns (c : Thread nD τ) (ms0_35 t) fullShare ((dats m 0 c).after 35 t) from by
      unfold Dat.leavesExact; rw [liveAt0_35 t], after0_35]
      rw [outsAt0_A m c t h0 h1]
      unfold out0_A_34 out0_A_35; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
      iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexists _; iexact H34
      isplitl [H35]; · iexists _; iexact H35
      iintro ⟨H0, H1, H2, H3, H4, H5, H6, H7, H8, H9, H10, H11, H12, H13, H14, H15, H16, H17, H18, H19, H20, H21, H22, H23, H24, H25, H26, H27, H28, H29, H30, H31, H32, H33, ⟨%e34, H34⟩, ⟨%e35, H35⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]
      · unfold owns; iexists _; isplitr
        swap; · iexact H34
        ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H35
      ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases h1 : 1 ≤ t.val
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13 t], after0_13]
      rw [show (dats m 0 c).leavesExact 14 t = owns (c : Thread nD τ) (ms0_14 t) fullShare ((dats m 0 c).after 14 t) from by
      unfold Dat.leavesExact; rw [liveAt0_14 t], after0_14]
      rw [show (dats m 0 c).leavesExact 15 t = owns (c : Thread nD τ) (ms0_15 t) fullShare ((dats m 0 c).after 15 t) from by
      unfold Dat.leavesExact; rw [liveAt0_15 t], after0_15]
      rw [show (dats m 0 c).leavesExact 16 t = owns (c : Thread nD τ) (ms0_16 t) fullShare ((dats m 0 c).after 16 t) from by
      unfold Dat.leavesExact; rw [liveAt0_16 t], after0_16]
      rw [show (dats m 0 c).leavesExact 17 t = owns (c : Thread nD τ) (ms0_17 t) fullShare ((dats m 0 c).after 17 t) from by
      unfold Dat.leavesExact; rw [liveAt0_17 t], after0_17]
      rw [show (dats m 0 c).leavesExact 18 t = owns (c : Thread nD τ) (ms0_18 t) fullShare ((dats m 0 c).after 18 t) from by
      unfold Dat.leavesExact; rw [liveAt0_18 t], after0_18]
      rw [show (dats m 0 c).leavesExact 19 t = owns (c : Thread nD τ) (ms0_19 t) fullShare ((dats m 0 c).after 19 t) from by
      unfold Dat.leavesExact; rw [liveAt0_19 t], after0_19]
      rw [show (dats m 0 c).leavesExact 20 t = owns (c : Thread nD τ) (ms0_20 t) fullShare ((dats m 0 c).after 20 t) from by
      unfold Dat.leavesExact; rw [liveAt0_20 t], after0_20]
      rw [show (dats m 0 c).leavesExact 21 t = owns (c : Thread nD τ) (ms0_21 t) fullShare ((dats m 0 c).after 21 t) from by
      unfold Dat.leavesExact; rw [liveAt0_21 t], after0_21]
      rw [show (dats m 0 c).leavesExact 22 t = owns (c : Thread nD τ) (ms0_22 t) fullShare ((dats m 0 c).after 22 t) from by
      unfold Dat.leavesExact; rw [liveAt0_22 t], after0_22]
      rw [show (dats m 0 c).leavesExact 23 t = owns (c : Thread nD τ) (ms0_23 t) fullShare ((dats m 0 c).after 23 t) from by
      unfold Dat.leavesExact; rw [liveAt0_23 t], after0_23]
      rw [show (dats m 0 c).leavesExact 24 t = owns (c : Thread nD τ) (ms0_24 t) fullShare ((dats m 0 c).after 24 t) from by
      unfold Dat.leavesExact; rw [liveAt0_24 t], after0_24]
      rw [show (dats m 0 c).leavesExact 25 t = owns (c : Thread nD τ) (ms0_25 t) fullShare ((dats m 0 c).after 25 t) from by
      unfold Dat.leavesExact; rw [liveAt0_25 t], after0_25]
      rw [show (dats m 0 c).leavesExact 26 t = owns (c : Thread nD τ) (ms0_26 t) fullShare ((dats m 0 c).after 26 t) from by
      unfold Dat.leavesExact; rw [liveAt0_26 t], after0_26]
      rw [show (dats m 0 c).leavesExact 27 t = owns (c : Thread nD τ) (ms0_27 t) fullShare ((dats m 0 c).after 27 t) from by
      unfold Dat.leavesExact; rw [liveAt0_27 t], after0_27]
      rw [show (dats m 0 c).leavesExact 28 t = owns (c : Thread nD τ) (ms0_28 t) fullShare ((dats m 0 c).after 28 t) from by
      unfold Dat.leavesExact; rw [liveAt0_28 t], after0_28]
      rw [show (dats m 0 c).leavesExact 29 t = owns (c : Thread nD τ) (ms0_29 t) fullShare ((dats m 0 c).after 29 t) from by
      unfold Dat.leavesExact; rw [liveAt0_29 t], after0_29]
      rw [show (dats m 0 c).leavesExact 30 t = owns (c : Thread nD τ) (ms0_30 t) fullShare ((dats m 0 c).after 30 t) from by
      unfold Dat.leavesExact; rw [liveAt0_30 t], after0_30]
      rw [show (dats m 0 c).leavesExact 31 t = owns (c : Thread nD τ) (ms0_31 t) fullShare ((dats m 0 c).after 31 t) from by
      unfold Dat.leavesExact; rw [liveAt0_31 t], after0_31]
      rw [show (dats m 0 c).leavesExact 32 t = owns (c : Thread nD τ) (ms0_32 t) fullShare ((dats m 0 c).after 32 t) from by
      unfold Dat.leavesExact; rw [liveAt0_32 t], after0_32]
      rw [show (dats m 0 c).leavesExact 33 t = owns (c : Thread nD τ) (ms0_33 t) fullShare ((dats m 0 c).after 33 t) from by
      unfold Dat.leavesExact; rw [liveAt0_33 t], after0_33]
      rw [show (dats m 0 c).leavesExact 34 t = owns (c : Thread nD τ) (ms0_34 t) fullShare ((dats m 0 c).after 34 t) from by
      unfold Dat.leavesExact; rw [liveAt0_34_B t (fun h => h0 ((hcond0_0 t).mp h)) ((hcond0_1 t).mpr h1)], after0_34]
      rw [show (dats m 0 c).leavesExact 35 t = owns (c : Thread nD τ) (ms0_35 t) fullShare ((dats m 0 c).after 35 t) from by
      unfold Dat.leavesExact; rw [liveAt0_35 t], after0_35]
      rw [outsAt0_B m c t h0 h1]
      simp only [before0_34_B m c t h0 h1]
      unfold out0_B_34 out0_B_35; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
      iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]; · iexact H34
      isplitl [H35]; · iexists _; iexact H35
      iintro ⟨H0, H1, H2, H3, H4, H5, H6, H7, H8, H9, H10, H11, H12, H13, H14, H15, H16, H17, H18, H19, H20, H21, H22, H23, H24, H25, H26, H27, H28, H29, H30, H31, H32, H33, ⟨%e34, H34⟩, ⟨%e35, H35⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      isplitl [H28]; · iexact H28
      isplitl [H29]; · iexact H29
      isplitl [H30]; · iexact H30
      isplitl [H31]; · iexact H31
      isplitl [H32]; · iexact H32
      isplitl [H33]; · iexact H33
      isplitl [H34]
      · unfold owns; iexists _; isplitr
        swap; · iexact H34
        ipureintro; exact View.read_writes_of_cover _ _ _ _ _ (cover0_B_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H35
      ipureintro; exact View.read_writes_of_cover _ _ _ _ _ (cover0_B_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Gen

end
-- ==== Proof.Frames.lean ====
/- The claims that state no value: what every run leaves of the arguments and counters, and that the kernel's rewritten
   constant is the real it was named. -/
module

public import proofs.«01_k».proof.Proof.Assumed
public import proofs.«01_k».proof.Proof.KernelFrame
public import proofs.«01_k».proof.Proof.KernelIdealFrame
public import proofs.«01_k».proof.Proof.Gen.ReferenceIdeal.Run
public import Idealize.ShloMosaic.Lib.Quiescent

@[expose] public section

noncomputable section

open Idealize.ShloMosaic Idealize.ShloMosaic.TcCoe Idealize.SL.Sem

namespace Cert.Proof.FrameClaims

open Cert.Assumed (pre_facts)

/-- The kernel's runs end, the arguments as they were and the counters at zero. -/
theorem frame_p : Cert.quiescent_Kernel := fun m ρ _ => Cert.Kernel.Gen.frame m ρ

/-- The same of the kernel on the extended reals. -/
theorem frame_pi : Cert.quiescent_KernelIdeal := fun m ρ _ => Cert.KernelIdeal.Gen.frame m ρ

/-- The same under the precondition. -/
theorem frame_pi_pre : Cert.quiescent_KernelIdeal_pre_finite_rows_and_labels := fun m ρ _ => Cert.KernelIdeal.Gen.frame m ρ

/-- The reference's runs end, the arguments as they were and the counters at zero. -/
theorem frame_ri : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The same under the precondition. -/
theorem frame_ri_pre : Cert.quiescent_ReferenceIdeal_pre_finite_rows_and_labels := fun m ρ _ => frame_ri m ρ trivial

/-- The named constant is the real it is named: `1 / 11704`. -/
theorem preserves : Cert.preserves_Kernel_KernelIdeal :=
  IdealRules.named_const.statement Cert.KernelIdeal.κ "reg_scale" .f32 0x38B32EB8#32 ((1 / 11704 : ℝ) : EReal) rfl

end Cert.Proof.FrameClaims

end
-- ==== Proof.Stream.lean ====
/- One stream of the kernel body as ONE function of its blocks, and the body's eight streams read as eight uses of it.

   The body handles eight blocks of 512 rows, one after the other, by the same operations; the printed payloads cut that
   chain at a different place in each stream. `streamSum` is the chain written once; the theorems below say that each
   stream's payloads, put together, add `streamSum` of the stream's blocks to the running total. -/
module

public import proofs.«01_k».proof.Proof.Gen.KernelIdeal.Skeleton

@[expose] public section

set_option maxRecDepth 16384

noncomputable section

namespace Cert.KernelIdeal.Hand

open Idealize.ShloMosaic Idealize.SL.Sem Cert.KernelIdeal Cert.KernelIdeal.Gen

variable {F : FTy → Type} [FloatOps F] [Named F]

/-- Which of the 128 table rows each of the 512 labels selects: 1 at the labelled row, 0 elsewhere. -/
def oneHot (lbl : Vec F S1x1x1x512 .i32) : FVec F S128x512 .f32 :=
  sitofp .f32 (extui 32 (cmpi .eq (iota .tc S128x512 32 [0] iota_S128x512_d0_w32)
    (broadcastTo S128x512 (shapeCast S1x512 (shapeCast S1x1x1x512 lbl shapeCasts_S1x1x1x512_S1x1x1x512)
      shapeCasts_S1x1x1x512_S1x512) broadcasts_S1x512_S128x512)) natLt_1_32)

/-- The column sums of a 128 x 512 array. -/
def colSum (a : FVec F S128x512 .f32) : FVec F S1x512 .f32 :=
  shapeCast S1x512 (multiReduction .add [0] S512 a 0x00000000#32 reduces_S128x512_S512 (.inl rfl) rfl) shapeCasts_S512_S1x512

/-- The 512 rows of a block, its leading axis dropped. -/
def rows (X : Vec F S1x512x768 .f32) : FVec F S512x768 .f32 :=
  shapeCast S512x768 (shapeCast S1x512x768 X shapeCasts_S1x512x768_S1x512x768) shapeCasts_S1x512x768_S512x768

/-- 512 values, their unit axes dropped. -/
def lane (w : Vec F S1x1x1x512 .f32) : FVec F S1x512 .f32 :=
  shapeCast S1x512 (shapeCast S1x1x1x512 w shapeCasts_S1x1x1x512_S1x1x1x512) shapeCasts_S1x1x1x512_S1x512

/-- The squared norms of a block's rows. -/
def rowSq (X : Vec F S1x512x768 .f32) : FVec F S1x512 .f32 :=
  matmul dot_S1x768_S512x768_S1x512_1_1_0_0_n_n none (broadcast S1x768 (Scalar.ofBits .f32 0x3F800000#32))
    (mulf (rows X) (rows X)) (constant S1x512 .f32 0x00000000#32)

/-- Twice the product of every table row with every block row, minus the table row's squared norm `n`. -/
def cross (C : FVec F S128x768 .f32) (n : FVec F S128x1 .f32) (X : Vec F S1x512x768 .f32) : FVec F S128x512 .f32 :=
  subf (mulf (matmul dot_S128x768_S512x768_S128x512_1_1_0_0_n_n none C (rows X) (constant S128x512 .f32 0x00000000#32))
      (broadcast S128x512 (Scalar.ofBits .f32 0x40000000#32)))
    (broadcastTo S128x512 n broadcasts_S128x1_S128x512)

/-- The boundary radius of each row's label: the entry of `d` it selects. -/
def radius (d : FVec F S128x1 .f32) (lbl : Vec F S1x1x1x512 .i32) : FVec F S1x512 .f32 :=
  colSum (mulf (broadcastTo S128x512 d broadcasts_S128x1_S128x512) (oneHot lbl))

/-- The distance of each row to its label's table row, as the kernel computes it. -/
def dist (d : FVec F S128x1 .f32) (C : FVec F S128x768 .f32) (n : FVec F S128x1 .f32) (X : Vec F S1x512x768 .f32)
    (lbl : Vec F S1x1x1x512 .i32) : FVec F S1x512 .f32 :=
  sqrt (maximumf (addf (subf (rowSq X)
      (colSum (mulf (addf (cross C n X) (broadcastTo S128x512 d broadcasts_S128x1_S128x512)) (oneHot lbl))))
      (radius d lbl))
    (broadcast S1x512 (Scalar.ofBits .f32 0x00000000#32)))

/-- Each row's density weight: `same / (same + diff + 1e-6)`. -/
def weight (ds dd : Vec F S1x1x1x512 .f32) : FVec F S1x512 .f32 :=
  divf (lane ds) (addf (addf (lane ds) (lane dd)) (broadcast S1x512 (Scalar.ofBits .f32 0x358637BD#32)))

/-- Each row's contribution: the distance to the boundary, weighted. -/
def contrib (d : FVec F S128x1 .f32) (C : FVec F S128x768 .f32) (n : FVec F S128x1 .f32) (X : Vec F S1x512x768 .f32)
    (lbl : Vec F S1x1x1x512 .i32) (ds dd : Vec F S1x1x1x512 .f32) : FVec F S1x512 .f32 :=
  mulf (absf (subf (dist d C n X lbl) (radius d lbl))) (weight ds dd)

/-- The sum of 512 values, as a 1 x 1 array. -/
def laneSum (a : FVec F S1x512 .f32) : FVec F S1x1 .f32 :=
  broadcast S1x1 (extractAt ![0, 0, 0] (shapeCast S1x1x1 (multiReduction .add [1, 2] S1
    (shapeCast S1x1x512 a shapeCasts_S1x512_S1x1x512) 0x00000000#32 reduces_S1x1x512_S1 (.inl rfl) rfl)
    shapeCasts_S1_S1x1x1) inpos_S1x1x1_p0_0_0)

/-- One stream's part of the loss: its 512 contributions summed. -/
def streamSum (d : FVec F S128x1 .f32) (C : FVec F S128x768 .f32) (n : FVec F S128x1 .f32) (X : Vec F S1x512x768 .f32)
    (lbl : Vec F S1x1x1x512 .i32) (ds dd : Vec F S1x1x1x512 .f32) : FVec F S1x1 .f32 :=
  laneSum (contrib d C n X lbl ds dd)

section

variable (a : FVec F S1x1 .f32) (δ : Vec F S128x1 .f32) (c : Vec F S128x768 .f32) (d : FVec F S128x1 .f32)
  (C : FVec F S128x768 .f32) (n : FVec F S128x1 .f32) (X : Vec F S1x512x768 .f32)
  (lbl : Vec F S1x1x1x512 .i32) (ds dd : Vec F S1x1x1x512 .f32)

/-- Stream 0 adds its `streamSum` to the total. -/
theorem stream0 : k0_pay12 (k0_pay3 δ) a (k0_pay8 X) (k0_pay9 lbl) (k0_pay10 c X) (k0_pay11 δ) ds dd
    = addf a (streamSum (k0_pay3 δ) (k0_pay4 c) (k0_pay5 c) X lbl ds dd) := rfl

/-- Stream 1 adds its `streamSum` to the total. -/
theorem stream1 : k0_pay17 a (k0_pay16 d n (k0_pay14 C X) (k0_pay15 X) lbl ds dd)
    = addf a (streamSum d C n X lbl ds dd) := rfl

/-- Stream 2 adds its `streamSum` to the total. -/
theorem stream2 : k0_pay22 a (k0_pay19 d lbl) (k0_pay20 d C n X lbl) (k0_pay21 ds) dd
    = addf a (streamSum d C n X lbl ds dd) := rfl

/-- Stream 3 adds its `streamSum` to the total. -/
theorem stream3 : k0_pay26 a (k0_pay24 d lbl) (k0_pay25 d C n X lbl) ds dd
    = addf a (streamSum d C n X lbl ds dd) := rfl

/-- Stream 4 adds its `streamSum` to the total. -/
theorem stream4 : k0_pay32 d n a (k0_pay28 C X) (k0_pay29 X) (k0_pay30 lbl) k0_pay31 ds dd
    = addf a (streamSum d C n X lbl ds dd) := rfl

/-- Stream 5 adds its `streamSum` to the total. -/
theorem stream5 : k0_pay38 a (k0_pay37 d n (k0_pay34 C X) k0_pay35 (k0_pay36 X) lbl ds dd)
    = addf a (streamSum d C n X lbl ds dd) := rfl

/-- Stream 6 adds its `streamSum` to the total. -/
theorem stream6 : k0_pay43 a (k0_pay40 d lbl) (k0_pay41 d C n X lbl) (k0_pay42 ds) dd
    = addf a (streamSum d C n X lbl ds dd) := rfl

/-- Stream 7 adds its `streamSum` to the total, which is then divided by the number of rows (times `2⁻¹⁴`). -/
theorem stream7 : k0_pay49 a (k0_pay45 X) (k0_pay47 d C n X lbl) (k0_pay48 d lbl) ds dd
    = mulf (addf a (streamSum d C n X lbl ds dd)) (broadcast S1x1 (Scalar.ofBits .f32 0x38800000#32)) := rfl

end

end Cert.KernelIdeal.Hand

end
-- ==== Proof.Row.lean ====
/- The mathematics of one row, on the extended reals: the kernel's expanded squared distance and its absolute value, and
   the reference's squared differences and its two masked branches, give the same loss contribution. -/
module

public import Idealize.ShloMosaic.PureOps.Ideal
public import Idealize.ShloMosaic.PureOps.Ideal.Laws

@[expose] public section

noncomputable section

namespace Cert.Row

open Idealize.ShloMosaic

/-- The softplus `max(v, 0) + log(1 + e^(-|v|))` of an extended real. -/
def softplus (v : EReal) : EReal := max v 0 + Ideal.log1p (Ideal.exp (-(max v (-v))))

/-- The exponential is never negative. -/
theorem exp_nonneg (x : EReal) : 0 ≤ Ideal.exp x := by
  induction x with
  | bot => exact le_refl _
  | top => exact le_top
  | coe r => exact EReal.coe_nonneg.mpr (Real.exp_pos r).le

/-- `log(1 + y)` is not negative where `y` is not. -/
theorem log1p_nonneg {y : EReal} (h : 0 ≤ y) : 0 ≤ Ideal.log1p y := by
  induction y with
  | bot => exact absurd h (by simp)
  | top =>
    rw [Ideal.log1p, show (1 : EReal) + ⊤ = ⊤ from EReal.coe_add_top 1]
    exact le_top
  | coe r =>
    have hr : 0 ≤ r := EReal.coe_nonneg.mp h
    have e : (1 : EReal) + (r : EReal) = ((1 + r : ℝ) : EReal) := by norm_cast
    rw [Ideal.log1p, e]
    change (0 : EReal) ≤ if 1 + r ≤ 0 then ⊥ else ((Real.log (1 + r) : ℝ) : EReal)
    rw [if_neg (by linarith)]
    exact EReal.coe_nonneg.mpr (Real.log_nonneg (by linarith))

/-- A softplus is never negative. -/
theorem softplus_nonneg (v : EReal) : 0 ≤ softplus v :=
  add_nonneg (le_max_right _ _) (log1p_nonneg (exp_nonneg _))

/-- The squared distance, expanded: `Σ (x - c)² = Σ x² - (2 Σ c x - Σ c²)`. -/
theorem sq_expand {n : ℕ} (x c : Fin n → ℝ) :
    ∑ k, (x k - c k) * (x k - c k) = ∑ k, x k * x k - ((∑ k, c k * x k) * 2 - ∑ k, c k * c k) := by
  rw [Finset.sum_mul, ← Finset.sum_sub_distrib, ← Finset.sum_sub_distrib]
  exact Finset.sum_congr rfl fun k _ => by ring

/-- A finite sum of reals, read in the extended reals. -/
theorem coe_sum {n : ℕ} (f : Fin n → ℝ) : ((∑ k, f k : ℝ) : EReal) = ∑ k, (f k : EReal) :=
  map_sum (⟨⟨(↑), EReal.coe_zero⟩, EReal.coe_add⟩ : ℝ →+ EReal) f Finset.univ

/-- The squared distance as the kernel computes it, before the clamp: row `x`, its label's table row `c`, radius `d`. -/
def kernelSq {n : ℕ} (x c : Fin n → EReal) (d : EReal) : EReal :=
  ∑ k, x k * x k - ((∑ k, c k * x k) * 2 - ∑ k, c k * c k + d) + d

/-- The kernel's contribution of a row, weighted by `v`. -/
def kernelRow {n : ℕ} (x c : Fin n → EReal) (d v : EReal) : EReal :=
  max (Ideal.sqrt (max (kernelSq x c d) 0) - d) (-(Ideal.sqrt (max (kernelSq x c d) 0) - d)) * v

/-- The distance as the reference computes it. -/
def refDist {n : ℕ} (x c : Fin n → EReal) : EReal := Ideal.sqrt (∑ k, (x k - c k) * (x k - c k))

/-- The reference's loss of a row outside the boundary. -/
def refPos (e d v : EReal) : EReal := (e - d) * ((if d < e then 1 else 0) * v)

/-- The reference's loss of a row inside the boundary. -/
def refNeg (e d v : EReal) : EReal := (d - e) * ((if e < d then 1 else 0) * v)

/-- The root of a real that is not negative. -/
theorem sqrt_real {r : ℝ} (h : 0 ≤ r) : Ideal.sqrt (r : EReal) = (Real.sqrt r : EReal) := by
  change (if r < 0 then ⊥ else ((Real.sqrt r : ℝ) : EReal)) = _
  rw [if_neg (not_lt.mpr h)]

/-- The absolute value of a real difference, weighted, splits into its two masked branches, whatever the weight. -/
theorem abs_split (e d : ℝ) (v : EReal) :
    max ((e : EReal) - d) (-((e : EReal) - d)) * v = refPos e d v + refNeg e d v := by
  unfold refPos refNeg
  rcases lt_trichotomy e d with h | h | h
  · have h' : ((e : EReal) < d) := EReal.coe_lt_coe_iff.mpr h
    rw [if_neg (not_lt.mpr h'.le), if_pos h', zero_mul, mul_zero, zero_add, one_mul]
    congr 1
    rw [← EReal.coe_sub, ← EReal.coe_neg, ← EReal.coe_sub, max_eq_right (EReal.coe_le_coe_iff.mpr (by linarith))]
    congr 1; ring
  · subst h
    rw [if_neg (lt_irrefl _), zero_mul, mul_zero, add_zero, ← EReal.coe_sub, ← EReal.coe_neg]
    simp
  · have h' : ((d : EReal) < e) := EReal.coe_lt_coe_iff.mpr h
    rw [if_pos h', if_neg (not_lt.mpr h'.le), zero_mul, mul_zero, add_zero, one_mul]
    congr 1
    rw [← EReal.coe_sub, ← EReal.coe_neg, max_eq_left (EReal.coe_le_coe_iff.mpr (by linarith))]

/-- A real less the top is the bottom. -/
theorem coe_sub_top (r : ℝ) : (r : EReal) - ⊤ = ⊥ := by
  rw [sub_eq_add_neg, EReal.neg_top, EReal.add_bot]

/-- One row: for a finite row and a finite table row, a radius that is not negative and any weight, the kernel's
    contribution is the sum of the reference's two branches. -/
theorem row_eq {n : ℕ} (x c : Fin n → ℝ) {d : EReal} (hd : 0 ≤ d) (v : EReal) :
    kernelRow (fun k => (x k : EReal)) (fun k => (c k : EReal)) d v
      = refPos (refDist (fun k => (x k : EReal)) fun k => (c k : EReal)) d v
        + refNeg (refDist (fun k => (x k : EReal)) fun k => (c k : EReal)) d v := by
  have hS : 0 ≤ ∑ k, (x k - c k) * (x k - c k) := Finset.sum_nonneg fun k _ => mul_self_nonneg _
  have hP : ∑ k, (x k : EReal) * (x k : EReal) = ((∑ k, x k * x k : ℝ) : EReal) := by
    rw [coe_sum]; exact Finset.sum_congr rfl fun k _ => (EReal.coe_mul _ _).symm
  have hQ : ∑ k, (c k : EReal) * (x k : EReal) = ((∑ k, c k * x k : ℝ) : EReal) := by
    rw [coe_sum]; exact Finset.sum_congr rfl fun k _ => (EReal.coe_mul _ _).symm
  have hR : ∑ k, (c k : EReal) * (c k : EReal) = ((∑ k, c k * c k : ℝ) : EReal) := by
    rw [coe_sum]; exact Finset.sum_congr rfl fun k _ => (EReal.coe_mul _ _).symm
  have hE : refDist (fun k => (x k : EReal)) (fun k => (c k : EReal))
      = ((Real.sqrt (∑ k, (x k - c k) * (x k - c k)) : ℝ) : EReal) := by
    rw [← sqrt_real hS, coe_sum, refDist]
    exact congrArg _ (Finset.sum_congr rfl fun k _ => by rw [← EReal.coe_sub, ← EReal.coe_mul])
  have h2 : (2 : EReal) = ((2 : ℝ) : EReal) := rfl
  rw [hE]
  induction d with
  | bot => exact absurd hd (by simp)
  | top =>
    have hsq : kernelSq (fun k => (x k : EReal)) (fun k => (c k : EReal)) ⊤ = ⊥ := by
      rw [kernelSq, hP, hQ, hR, h2, ← EReal.coe_mul, ← EReal.coe_sub, EReal.coe_add_top, coe_sub_top, EReal.bot_add]
    rw [kernelRow, hsq, max_eq_right bot_le, ← EReal.coe_zero, sqrt_real le_rfl, Real.sqrt_zero, coe_sub_top,
      EReal.neg_bot, max_eq_right bot_le]
    unfold refPos refNeg
    rw [if_neg not_top_lt, if_pos (EReal.coe_lt_top _), zero_mul, mul_zero, zero_add, one_mul, EReal.top_sub_coe]
  | coe d =>
    have hsq : kernelSq (fun k => (x k : EReal)) (fun k => (c k : EReal)) (d : EReal)
        = ((∑ k, (x k - c k) * (x k - c k) : ℝ) : EReal) := by
      rw [kernelSq, hP, hQ, hR, h2, ← EReal.coe_mul, ← EReal.coe_sub, ← EReal.coe_add, ← EReal.coe_sub, ← EReal.coe_add,
        sq_expand]
      congr 1; ring
    rw [kernelRow, hsq, max_eq_left (EReal.coe_nonneg.mpr hS), sqrt_real hS, abs_split]

end Cert.Row

end
-- ==== Proof.Consts.lean ====
/- The real numbers that the programs' float constants denote. -/
module

public import Idealize.ShloMosaic.PureOps.Ideal
public import Idealize.ShloMosaic.PureOps.Ideal.Laws
public import Idealize.ShloMosaic.Lib.IdealHost

@[expose] public section

noncomputable section

namespace Cert.Consts

open Idealize.ShloMosaic

/-- The constant 2. -/
theorem two : Ideal.ofBits .f32 0x40000000#32 = ((2 : ℝ) : EReal) := by
  simp [Ideal.ofBits, Ideal.ieee, -EReal.coe_mul]
  norm_num

/-- The constant 1 / 16384. -/
theorem inv_rows : Ideal.ofBits .f32 0x38800000#32 = ((1 / 16384 : ℝ) : EReal) := by
  simp [Ideal.ofBits, Ideal.ieee, -EReal.coe_mul]
  norm_num

/-- The constant 1 / 2. -/
theorem half : Ideal.ofBits .f32 0x3F000000#32 = ((1 / 2 : ℝ) : EReal) := by
  simp [Ideal.ofBits, Ideal.ieee, -EReal.coe_mul]
  norm_num

/-- The constant 76. -/
theorem labels_less_one : Ideal.ofBits .f32 0x42980000#32 = ((76 : ℝ) : EReal) := by
  simp [Ideal.ofBits, Ideal.ieee, -EReal.coe_mul]
  norm_num

/-- The constant 77. -/
theorem labels : Ideal.ofBits .f32 0x429A0000#32 = ((77 : ℝ) : EReal) := by
  simp [Ideal.ofBits, Ideal.ieee, -EReal.coe_mul]
  norm_num

/-- The constant 16384. -/
theorem rows : Ideal.ofBits .f32 0x46800000#32 = ((16384 : ℝ) : EReal) := by
  simp [Ideal.ofBits, Ideal.ieee, -EReal.coe_mul]
  norm_num

end Cert.Consts

end
-- ==== Proof.Contrib.lean ====
/- One stream read at an index, on the extended reals: the contribution of a row whose label is in range is `Cert.Row.kernelRow` of
   the row, of the table row its label names, and of that row's radius; a stream's part is the sum over its 512 rows. -/
module

public import proofs.«01_k».proof.Proof.Stream
public import proofs.«01_k».proof.Proof.Row
public import proofs.«01_k».proof.Proof.Consts
public import Idealize.ShloMosaic.Lib.Pipeline.ValueKit

@[expose] public section

set_option maxRecDepth 16384

noncomputable section

namespace Cert.KernelIdeal.Hand

open Idealize.ShloMosaic Idealize.SL.Sem Cert.KernelIdeal Cert.KernelIdeal.Gen

/-- The bit of an equality test, as a float: 1 where it holds, 0 elsewhere. -/
theorem flag_eq (a b : BitVec 32) :
    FloatOps.sitofp (F := Ideal) .f32 (BitVec.setWidth 32 (IntOp.cmpi .eq a b)) = if a = b then (1 : EReal) else 0 := by
  show (((BitVec.setWidth 32 (BitVec.ofBool (a == b))).toInt : ℝ) : EReal) = _
  by_cases h : a = b
  · rw [if_pos h, beq_iff_eq.mpr h]
    exact congrArg _ (by norm_num : ((1 : ℤ) : ℝ) = 1)
  · rw [if_neg h, beq_eq_false_iff_ne.mpr h]
    exact congrArg _ (by norm_num : ((0 : ℤ) : ℝ) = 0)

/-- The one-hot array at (table row `a`, row `q`): 1 exactly where `a` is the label of row `q`. -/
theorem oneHot_at (lbl : Vec Ideal S1x1x1x512 .i32) (a : Fin 128) (q : Fin 512) :
    oneHot (F := Ideal) lbl (ix2 a q) = if BitVec.ofNat 32 a.val = lbl (ix4 0 0 0 q) then (1 : EReal) else 0 := by
  rw [← flag_eq]
  pointwise [oneHot]

/-- A sum against the one-hot of label `l` is the entry that `l` names. -/
theorem sum_hot (f : Fin 128 → EReal) (b : BitVec 32) (l : Fin 128) (hb : b = BitVec.ofNat 32 l.val) :
    ∑ a : Fin 128, f a * (if BitVec.ofNat 32 a.val = b then (1 : EReal) else 0) = f l := by
  rw [Finset.sum_eq_single l]
  · rw [if_pos hb.symm, mul_one]
  · intro a _ ha
    rw [if_neg, mul_zero]
    intro h
    have h' := congrArg BitVec.toNat (h.trans hb)
    simp only [BitVec.toNat_ofNat] at h'
    have := a.isLt; have := l.isLt
    exact ha (Fin.ext (by omega))
  · intro h; exact absurd (Finset.mem_univ _) h

variable (d : FVec Ideal S128x1 .f32) (C : FVec Ideal S128x768 .f32) (X : Vec Ideal S1x512x768 .f32)
  (lbl : Vec Ideal S1x1x1x512 .i32) (ds dd : Vec Ideal S1x1x1x512 .f32)

/-- The table's squared row norms. -/
def tableSq : FVec Ideal S128x1 .f32 := fun j => ∑ k : Fin 768, C (ix2 (j 0) k) * C (ix2 (j 0) k)

/-- The density weight of row `q`. -/
def weightAt (s t : EReal) : EReal := Ideal.div s (s + t + Ideal.ofBits .f32 0x358637BD#32)

/-- The radius of row `q` is its label's entry. -/
theorem radius_at (q : Fin 512) (l : Fin 128) (hl : lbl (ix4 0 0 0 q) = BitVec.ofNat 32 l.val) :
    radius d lbl (ix2 0 q) = d (ix2 l 0) := by
  pointwise [radius, colSum]
  simp only [oneHot_at]
  exact sum_hot (fun a => d (ix2 a 0)) _ l hl

/-- The clamped square under the root, at row `q`. -/
theorem dist_at (q : Fin 512) (l : Fin 128) (hl : lbl (ix4 0 0 0 q) = BitVec.ofNat 32 l.val) :
    dist d C (tableSq C) X lbl (ix2 0 q)
      = Ideal.sqrt (max (Cert.Row.kernelSq (fun k : Fin 768 => X (ix3 0 q k)) (fun k => C (ix2 l k)) (d (ix2 l 0))) 0) := by
  pointwise [dist, rowSq, rows, colSum, cross]
  rw [radius_at d lbl q l hl]
  simp only [oneHot_at]
  rw [sum_hot (fun a => (∑ x, C (ix2 a x) * X (ix3 0 q x)) * Ideal.ofBits FTy.f32 1073741824#32 - tableSq C (ix2 a 0) + d (ix2 a 0)) _ l hl]
  rw [Cert.Consts.two]
  rfl

/-- The contribution of row `q`, whose label is `l`. -/
theorem contrib_at (q : Fin 512) (l : Fin 128) (hl : lbl (ix4 0 0 0 q) = BitVec.ofNat 32 l.val) :
    contrib d C (tableSq C) X lbl ds dd (ix2 0 q)
      = Cert.Row.kernelRow (fun k : Fin 768 => X (ix3 0 q k)) (fun k => C (ix2 l k)) (d (ix2 l 0))
          (weightAt (ds (ix4 0 0 0 q)) (dd (ix4 0 0 0 q))) := by
  pointwise [contrib, weight, lane]
  rw [dist_at d C X lbl q l hl, radius_at d lbl q l hl]
  rfl

/-- A stream's part: the sum of its 512 rows' contributions. -/
theorem streamSum_at (n : FVec Ideal S128x1 .f32) (j : S1x1.Idx) :
    streamSum d C n X lbl ds dd j = ∑ q : Fin 512, contrib d C n X lbl ds dd (ix2 0 q) := by
  pointwise [streamSum, laneSum]
  simp

end Cert.KernelIdeal.Hand

end
-- ==== Proof.Total.lean ====
/- The sums of the whole loss, on the extended reals: the 16384 rows, summed in the kernel's order, against one sum over all rows, and
   the regularizer over the padded radii against the mean of the 77 radii. -/
module

public import proofs.«01_k».proof.Proof.Row
public import proofs.«01_k».proof.Proof.Consts

@[expose] public section

noncomputable section

namespace Cert.Total

open Idealize.ShloMosaic

/-- Row `q` of the block that stream `k` reads at grid point `t`. -/
def rowOf (k : Fin 8) (t : Fin 4) (q : Fin 512) : Fin 16384 :=
  ⟨k.val * 2048 + t.val * 512 + q.val, by have := k.isLt; have := t.isLt; have := q.isLt; omega⟩

/-- A sum over `a * b` positions, as `a` sums of `b`. -/
theorem sum_split {N a b : ℕ} (h : a * b = N) (f : Fin N → EReal) :
    ∑ p, f p = ∑ i : Fin a, ∑ j : Fin b, f (Fin.cast h (finProdFinEquiv (i, j))) := by
  subst h
  rw [← Fintype.sum_prod_type', ← finProdFinEquiv.sum_comp]
  rfl

/-- The sum over all rows, by grid point, stream and position. -/
theorem sum_rows (f : Fin 16384 → EReal) : ∑ p, f p = ∑ t : Fin 4, ∑ k : Fin 8, ∑ q : Fin 512, f (rowOf k t q) := by
  rw [sum_split (a := 8) (b := 2048) (by norm_num) f, Finset.sum_comm (s := (Finset.univ : Finset (Fin 4)))]
  refine Finset.sum_congr rfl fun k _ => ?_
  rw [sum_split (a := 4) (b := 512) (by norm_num)]
  refine Finset.sum_congr rfl fun t _ => Finset.sum_congr rfl fun q _ => congrArg f (Fin.ext ?_)
  simp only [rowOf, Fin.val_cast, finProdFinEquiv_apply_val]
  omega

/-- The factor 1 / 16384. -/
def scale : EReal := ((1 / 16384 : ℝ) : EReal)

/-- The factor distributes over a sum. -/
theorem add_scale (a b : EReal) : (a + b) * scale = a * scale + b * scale :=
  EReal.right_distrib_of_nonneg_of_ne_top (EReal.coe_nonneg.mpr (by norm_num)) (EReal.coe_ne_top _) a b

/-- A quotient by 16384. -/
theorem div_rows (a : EReal) : Ideal.div a (Ideal.ofBits .f32 0x46800000#32) = a * scale := by
  rw [Cert.Consts.rows, Ideal.div_coe (by norm_num)]
  rfl

/-- The kernel's sum: at each grid point eight streams' parts are added up and scaled, and the four points' values are added up, the
    first together with the regularizer `g`. It is the two means plus `g`, where every row's contribution is the sum of its two branches. -/
theorem total (f h : Fin 16384 → EReal) (g : EReal) (p : Fin 4 → EReal)
    (hp : ∀ t, p t = (∑ k : Fin 8, ∑ q : Fin 512, (f (rowOf k t q) + h (rowOf k t q))) * scale) :
    p 0 + g + p 1 + p 2 + p 3
      = Ideal.div (∑ r, f r) (Ideal.ofBits .f32 0x46800000#32) + Ideal.div (∑ r, h r) (Ideal.ofBits .f32 0x46800000#32) + g := by
  have e : ∑ t, p t = (∑ r, (f r + h r)) * scale := by
    rw [sum_rows]
    simp only [hp, Fin.sum_univ_four, add_scale]
  rw [div_rows, div_rows, ← add_scale, ← Finset.sum_add_distrib, ← e, Fin.sum_univ_four]
  abel

/-- The kernel's regularizer, masked over the 128 padded radii and weighted by 1 / 11704, is the reference's: the mean of
    the 77 radii times 0.5 / 76. -/
theorem reg (v : Fin 128 → EReal) (w : Fin 128 → EReal) (s : Fin 77 → EReal)
    (hw : ∀ x : Fin 128, w x = if x.val < 77 then 1 else 0) (hs : ∀ l : Fin 77, v (Fin.castLE (by norm_num) l) = s l) :
    (∑ x, v x * w x) * ((1 / 11704 : ℝ) : EReal)
      = Ideal.div (Ideal.ofBits .f32 0x3F000000#32) (Ideal.ofBits .f32 0x42980000#32)
          * Ideal.div (∑ l, s l) (Ideal.ofBits .f32 0x429A0000#32) := by
  have e : ∑ x, v x * w x = ∑ l, s l := by
    rw [← Fin.sum_congr' (fun x : Fin 128 => v x * w x) (show 77 + 51 = 128 by norm_num), Fin.sum_univ_add]
    have h0 : ∀ i : Fin 51, w (Fin.cast (show 77 + 51 = 128 by norm_num) (Fin.natAdd 77 i)) = 0 := fun i => by
      rw [hw, if_neg]; simp
    have h1 : ∀ i : Fin 77, w (Fin.cast (show 77 + 51 = 128 by norm_num) (Fin.castAdd 51 i)) = 1 := fun i => by
      rw [hw, if_pos]; simp
    simp only [h0, h1, mul_zero, Finset.sum_const_zero, add_zero, mul_one]
    exact Finset.sum_congr rfl fun l _ => hs l
  rw [e, Cert.Consts.half, Cert.Consts.labels_less_one, Cert.Consts.labels, Ideal.div_coe (by norm_num), Ideal.div_coe (by norm_num),
    ← EReal.coe_mul, mul_comm (∑ l, s l) ((1 / 77 : ℝ) : EReal), ← mul_assoc, ← EReal.coe_mul, mul_comm]
  congr 2
  norm_num

end Cert.Total

end
-- ==== Proof.Entry.lean ====
/- The input blocks of the kernel's launch, read at an index as entries of the argument arrays. -/
module

public import proofs.«01_k».proof.Proof.Gen.KernelIdeal.Frame.Runs
public import proofs.«01_k».proof.Proof.Total
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.SL.Sem Cert.KernelIdeal Cert.KernelIdeal.Gen
open Cert.Total (rowOf)

variable {F : FTy → Type} [FloatOps F] [Named F]
variable (m : (ℓ : Loc nD τ sig) → Buf (Elt F) ℓ) (c : Dev nD) (t : Fin cfg0.N)

/-- A grid point's number, below 4. -/
def pt : Fin 4 := ⟨t.val, lt_of_lt_of_eq t.isLt (by decide +kernel)⟩

/-- The rows at region entry: split by stream. -/
theorem V_rows (k : Fin 8) (u : Fin 2048) (x : Fin 768) :
    V m c main_v3 (ix3 k u x) = m ((c.tc : Thread nD τ).loc main_arg0) (ix2 ⟨k.val * 2048 + u.val, by omega⟩ x) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil,
    List.cons_append, List.nil_append]
  after_results_simp
  pointwise

/-- The table at region entry: its first 77 rows are the centroids. -/
theorem V_table (a : Fin 128) (x : Fin 768) (l : Fin 77) (h : a.val = l.val) :
    V m c main_v0 (ix2 a x) = m ((c.tc : Thread nD τ).loc main_arg1) (ix2 l x) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil,
    List.cons_append, List.nil_append]
  after_results_simp
  show pad S128x768 ![0, 0] ![51, 0] ![0, 0] (m ((c.tc : Thread nD τ).loc main_arg1)) _ pads_S77x768_S128x768_0510_000 h_S_ (ix2 a x) = _
  pointwise
  refine (dif_pos fun b => ?_).trans (congrArg (fun a' => m ((c.tc : Thread nD τ).loc main_arg1) (ix2 a' x)) (Fin.ext h))
  match b with
  | ⟨0, _⟩ =>
    refine ⟨Nat.zero_le _, Nat.mod_one _, ?_⟩
    show (a.val - 0) / (0 + 1) < 77
    have := l.isLt
    omega
  | ⟨1, _⟩ =>
    refine ⟨Nat.zero_le _, Nat.mod_one _, ?_⟩
    show (x.val - 0) / (0 + 1) < 768
    have := x.isLt
    omega

/-- The radii's logits at region entry: the first 77 are the argument's. -/
theorem V_logit (a : Fin 128) (l : Fin 77) (h : a.val = l.val) :
    V m c main_v2 (ix2 a 0) = m ((c.tc : Thread nD τ).loc main_arg5) (ix1 l) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil,
    List.cons_append, List.nil_append]
  after_results_simp
  pointwise
  show pad S128 ![0] ![51] ![0] (m ((c.tc : Thread nD τ).loc main_arg5)) _ pads_S77_S128_0510 h_S_ (ix1 a) = _
  pointwise
  refine (dif_pos fun b => ?_).trans (congrArg (fun a' => m ((c.tc : Thread nD τ).loc main_arg5) (ix1 a')) (Fin.ext h))
  match b with
  | ⟨0, _⟩ =>
    show a.val < 77
    have := l.isLt
    omega

/-- The labels at region entry: split by stream and grid point. -/
theorem V_label (k : Fin 8) (u : Fin 4) (q : Fin 512) :
    V m c main_v4 (ix4 k u 0 q) = m ((c.tc : Thread nD τ).loc main_arg2) (ix1 (rowOf k u q)) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil,
    List.cons_append, List.nil_append]
  after_results_simp
  pointwise
  rfl

/-- The same-class densities at region entry. -/
theorem V_same (k : Fin 8) (u : Fin 4) (q : Fin 512) :
    V m c main_v5 (ix4 k u 0 q) = m ((c.tc : Thread nD τ).loc main_arg3) (ix1 (rowOf k u q)) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil,
    List.cons_append, List.nil_append]
  after_results_simp
  pointwise
  rfl

/-- The different-class densities at region entry. -/
theorem V_diff (k : Fin 8) (u : Fin 4) (q : Fin 512) :
    V m c main_v6 (ix4 k u 0 q) = m ((c.tc : Thread nD τ).loc main_arg4) (ix1 (rowOf k u q)) := by
  show StableHlo.after (List.flatten [hostOps0, hostOps0_1, hostOps0_2, hostOps0_3, hostOps0_4]) _ _ _ = _
  simp only [hostOps0, hostOps0_1, hostOps0_2, hostOps0_3, hostOps0_4, List.flatten_cons, List.flatten_nil, List.append_nil,
    List.cons_append, List.nil_append]
  after_results_simp
  pointwise
  rfl

/-! ## The blocks of the streams -/

/-- The rows of the eight streams at a grid point. -/
def xs : Fin 8 → Vec F S1x512x768 .f32 := ![iblk m c 0 t, iblk m c 1 t, iblk m c 2 t, iblk m c 3 t, iblk m c 4 t, iblk m c 5 t, iblk m c 6 t, iblk m c 7 t]

/-- Their labels. -/
def ls : Fin 8 → Vec F S1x1x1x512 .i32 := ![iblk m c 9 t, iblk m c 10 t, iblk m c 11 t, iblk m c 12 t, iblk m c 13 t, iblk m c 14 t, iblk m c 15 t, iblk m c 16 t]

/-- Their same-class densities. -/
def ss : Fin 8 → Vec F S1x1x1x512 .f32 := ![iblk m c 17 t, iblk m c 18 t, iblk m c 19 t, iblk m c 20 t, iblk m c 21 t, iblk m c 22 t, iblk m c 23 t, iblk m c 24 t]

/-- Their different-class densities. -/
def es : Fin 8 → Vec F S1x1x1x512 .f32 := ![iblk m c 25 t, iblk m c 26 t, iblk m c 27 t, iblk m c 28 t, iblk m c 29 t, iblk m c 30 t, iblk m c 31 t, iblk m c 32 t]

/-- The index maps of the rows' windows: the stream, the grid point, all columns. -/
theorem idx_x : ∀ t : Fin cfg0.N,
    (win0_0.index t = ![0, t.val, 0] ∧ win0_1.index t = ![1, t.val, 0] ∧ win0_2.index t = ![2, t.val, 0] ∧ win0_3.index t = ![3, t.val, 0])
      ∧ win0_4.index t = ![4, t.val, 0] ∧ win0_5.index t = ![5, t.val, 0] ∧ win0_6.index t = ![6, t.val, 0] ∧ win0_7.index t = ![7, t.val, 0] :=
  (by decide +kernel : ∀ t : Fin grid0.N, _)

/-- Where a block of rows lies whose index map gives stream `k` and grid point `t`. -/
theorem rows_place {k : Fin 8} {t : Fin cfg0.N} {f : Fin 3 → Nat} (hf : f = ![k.val, t.val, 0]) (q : Fin 512) (x : Fin 768)
    {e : S8x2048x768.Idx} (he : ∀ a : Fin 3, (e a).val = f a * S1x512x768.size a + (ix3 (0 : Fin 1) q x a).val) :
    e = ix3 k ⟨(pt t).val * 512 + q.val, by omega⟩ x := by
  subst hf
  funext b
  refine Fin.ext ((he b).trans ?_)
  match b with
  | ⟨0, _⟩ => simp
  | ⟨1, _⟩ => simp [pt]
  | ⟨2, _⟩ => simp

set_option maxHeartbeats 2000000 in
/-- The rows of stream `k` at a grid point. -/
theorem xs_at (k : Fin 8) (q : Fin 512) (x : Fin 768) :
    xs m c t k (ix3 0 q x) = m ((c.tc : Thread nD τ).loc main_arg0) (ix2 (rowOf k (pt t) q) x) := by
  have e : xs m c t k (ix3 0 q x) = V m c main_v3 (ix3 k ⟨(pt t).val * 512 + q.val, by omega⟩ x) := by
    obtain ⟨⟨h0, h1, h2, h3⟩, h4, h5, h6, h7⟩ := idx_x t
    match k with
    | 0 => exact congrArg (V m c main_v3) (rows_place h0 q x fun a => ValueKit.view_emb_slice_whole_unit_val main_v3 _ _ _ _ a)
    | 1 => exact congrArg (V m c main_v3) (rows_place h1 q x fun a => ValueKit.view_emb_slice_whole_unit_val main_v3 _ _ _ _ a)
    | 2 => exact congrArg (V m c main_v3) (rows_place h2 q x fun a => ValueKit.view_emb_slice_whole_unit_val main_v3 _ _ _ _ a)
    | 3 => exact congrArg (V m c main_v3) (rows_place h3 q x fun a => ValueKit.view_emb_slice_whole_unit_val main_v3 _ _ _ _ a)
    | 4 => exact congrArg (V m c main_v3) (rows_place h4 q x fun a => ValueKit.view_emb_slice_whole_unit_val main_v3 _ _ _ _ a)
    | 5 => exact congrArg (V m c main_v3) (rows_place h5 q x fun a => ValueKit.view_emb_slice_whole_unit_val main_v3 _ _ _ _ a)
    | 6 => exact congrArg (V m c main_v3) (rows_place h6 q x fun a => ValueKit.view_emb_slice_whole_unit_val main_v3 _ _ _ _ a)
    | 7 => exact congrArg (V m c main_v3) (rows_place h7 q x fun a => ValueKit.view_emb_slice_whole_unit_val main_v3 _ _ _ _ a)
  rw [e, V_rows]
  exact congrArg (fun r => m ((c.tc : Thread nD τ).loc main_arg0) (ix2 r x)) (Fin.ext (Nat.add_assoc _ _ _).symm)

/-- Where a block of per-row values lies whose index map gives stream `k` and grid point `t`. -/
theorem lane_place {k : Fin 8} {t : Fin cfg0.N} {f : Fin 4 → Nat} (hf : f = ![k.val, t.val, 0, 0]) (q : Fin 512)
    {e : S8x4x1x512.Idx} (he : ∀ a : Fin 4, (e a).val = f a * S1x1x1x512.size a + (ix4 (0 : Fin 1) (0 : Fin 1) (0 : Fin 1) q a).val) :
    e = ix4 k (pt t) 0 q := by
  subst hf
  funext b
  refine Fin.ext ((he b).trans ?_)
  match b with
  | ⟨0, _⟩ => simp
  | ⟨1, _⟩ => simp [pt]
  | ⟨2, _⟩ => simp
  | ⟨3, _⟩ => simp

/-- The index maps of the windows of the labels: the stream, the grid point. -/
theorem idx_ls : ∀ t : Fin cfg0.N,
    (win0_9.index t = ![0, t.val, 0, 0] ∧ win0_10.index t = ![1, t.val, 0, 0] ∧ win0_11.index t = ![2, t.val, 0, 0] ∧ win0_12.index t = ![3, t.val, 0, 0])
      ∧ win0_13.index t = ![4, t.val, 0, 0] ∧ win0_14.index t = ![5, t.val, 0, 0] ∧ win0_15.index t = ![6, t.val, 0, 0] ∧ win0_16.index t = ![7, t.val, 0, 0] :=
  (by decide +kernel : ∀ t : Fin grid0.N, _)

set_option maxHeartbeats 2000000 in
/-- The labels of stream `k` at a grid point. -/
theorem ls_at (k : Fin 8) (q : Fin 512) :
    ls m c t k (ix4 0 0 0 q) = m ((c.tc : Thread nD τ).loc main_arg2) (ix1 (rowOf k (pt t) q)) := by
  refine Eq.trans ?_ (V_label m c k (pt t) q)
  obtain ⟨⟨h0, h1, h2, h3⟩, h4, h5, h6, h7⟩ := idx_ls t
  match k with
  | 0 => exact congrArg (V m c main_v4) (lane_place h0 q fun a => ValueKit.view_emb_slice_whole_unit_val main_v4 _ _ _ _ a)
  | 1 => exact congrArg (V m c main_v4) (lane_place h1 q fun a => ValueKit.view_emb_slice_whole_unit_val main_v4 _ _ _ _ a)
  | 2 => exact congrArg (V m c main_v4) (lane_place h2 q fun a => ValueKit.view_emb_slice_whole_unit_val main_v4 _ _ _ _ a)
  | 3 => exact congrArg (V m c main_v4) (lane_place h3 q fun a => ValueKit.view_emb_slice_whole_unit_val main_v4 _ _ _ _ a)
  | 4 => exact congrArg (V m c main_v4) (lane_place h4 q fun a => ValueKit.view_emb_slice_whole_unit_val main_v4 _ _ _ _ a)
  | 5 => exact congrArg (V m c main_v4) (lane_place h5 q fun a => ValueKit.view_emb_slice_whole_unit_val main_v4 _ _ _ _ a)
  | 6 => exact congrArg (V m c main_v4) (lane_place h6 q fun a => ValueKit.view_emb_slice_whole_unit_val main_v4 _ _ _ _ a)
  | 7 => exact congrArg (V m c main_v4) (lane_place h7 q fun a => ValueKit.view_emb_slice_whole_unit_val main_v4 _ _ _ _ a)

/-- The index maps of the windows of the same-class densities: the stream, the grid point. -/
theorem idx_ss : ∀ t : Fin cfg0.N,
    (win0_17.index t = ![0, t.val, 0, 0] ∧ win0_18.index t = ![1, t.val, 0, 0] ∧ win0_19.index t = ![2, t.val, 0, 0] ∧ win0_20.index t = ![3, t.val, 0, 0])
      ∧ win0_21.index t = ![4, t.val, 0, 0] ∧ win0_22.index t = ![5, t.val, 0, 0] ∧ win0_23.index t = ![6, t.val, 0, 0] ∧ win0_24.index t = ![7, t.val, 0, 0] :=
  (by decide +kernel : ∀ t : Fin grid0.N, _)

set_option maxHeartbeats 2000000 in
/-- The same-class densities of stream `k` at a grid point. -/
theorem ss_at (k : Fin 8) (q : Fin 512) :
    ss m c t k (ix4 0 0 0 q) = m ((c.tc : Thread nD τ).loc main_arg3) (ix1 (rowOf k (pt t) q)) := by
  refine Eq.trans ?_ (V_same m c k (pt t) q)
  obtain ⟨⟨h0, h1, h2, h3⟩, h4, h5, h6, h7⟩ := idx_ss t
  match k with
  | 0 => exact congrArg (V m c main_v5) (lane_place h0 q fun a => ValueKit.view_emb_slice_whole_unit_val main_v5 _ _ _ _ a)
  | 1 => exact congrArg (V m c main_v5) (lane_place h1 q fun a => ValueKit.view_emb_slice_whole_unit_val main_v5 _ _ _ _ a)
  | 2 => exact congrArg (V m c main_v5) (lane_place h2 q fun a => ValueKit.view_emb_slice_whole_unit_val main_v5 _ _ _ _ a)
  | 3 => exact congrArg (V m c main_v5) (lane_place h3 q fun a => ValueKit.view_emb_slice_whole_unit_val main_v5 _ _ _ _ a)
  | 4 => exact congrArg (V m c main_v5) (lane_place h4 q fun a => ValueKit.view_emb_slice_whole_unit_val main_v5 _ _ _ _ a)
  | 5 => exact congrArg (V m c main_v5) (lane_place h5 q fun a => ValueKit.view_emb_slice_whole_unit_val main_v5 _ _ _ _ a)
  | 6 => exact congrArg (V m c main_v5) (lane_place h6 q fun a => ValueKit.view_emb_slice_whole_unit_val main_v5 _ _ _ _ a)
  | 7 => exact congrArg (V m c main_v5) (lane_place h7 q fun a => ValueKit.view_emb_slice_whole_unit_val main_v5 _ _ _ _ a)

/-- The index maps of the windows of the different-class densities: the stream, the grid point. -/
theorem idx_es : ∀ t : Fin cfg0.N,
    (win0_25.index t = ![0, t.val, 0, 0] ∧ win0_26.index t = ![1, t.val, 0, 0] ∧ win0_27.index t = ![2, t.val, 0, 0] ∧ win0_28.index t = ![3, t.val, 0, 0])
      ∧ win0_29.index t = ![4, t.val, 0, 0] ∧ win0_30.index t = ![5, t.val, 0, 0] ∧ win0_31.index t = ![6, t.val, 0, 0] ∧ win0_32.index t = ![7, t.val, 0, 0] :=
  (by decide +kernel : ∀ t : Fin grid0.N, _)

set_option maxHeartbeats 2000000 in
/-- The different-class densities of stream `k` at a grid point. -/
theorem es_at (k : Fin 8) (q : Fin 512) :
    es m c t k (ix4 0 0 0 q) = m ((c.tc : Thread nD τ).loc main_arg4) (ix1 (rowOf k (pt t) q)) := by
  refine Eq.trans ?_ (V_diff m c k (pt t) q)
  obtain ⟨⟨h0, h1, h2, h3⟩, h4, h5, h6, h7⟩ := idx_es t
  match k with
  | 0 => exact congrArg (V m c main_v6) (lane_place h0 q fun a => ValueKit.view_emb_slice_whole_unit_val main_v6 _ _ _ _ a)
  | 1 => exact congrArg (V m c main_v6) (lane_place h1 q fun a => ValueKit.view_emb_slice_whole_unit_val main_v6 _ _ _ _ a)
  | 2 => exact congrArg (V m c main_v6) (lane_place h2 q fun a => ValueKit.view_emb_slice_whole_unit_val main_v6 _ _ _ _ a)
  | 3 => exact congrArg (V m c main_v6) (lane_place h3 q fun a => ValueKit.view_emb_slice_whole_unit_val main_v6 _ _ _ _ a)
  | 4 => exact congrArg (V m c main_v6) (lane_place h4 q fun a => ValueKit.view_emb_slice_whole_unit_val main_v6 _ _ _ _ a)
  | 5 => exact congrArg (V m c main_v6) (lane_place h5 q fun a => ValueKit.view_emb_slice_whole_unit_val main_v6 _ _ _ _ a)
  | 6 => exact congrArg (V m c main_v6) (lane_place h6 q fun a => ValueKit.view_emb_slice_whole_unit_val main_v6 _ _ _ _ a)
  | 7 => exact congrArg (V m c main_v6) (lane_place h7 q fun a => ValueKit.view_emb_slice_whole_unit_val main_v6 _ _ _ _ a)

/-! ## The table and the logits -/

/-- The index maps of the two whole operands. -/
theorem idx_whole : ∀ t : Fin cfg0.N, win0_8.index t = ![0, 0] ∧ win0_33.index t = ![0, 0] :=
  (by decide +kernel : ∀ t : Fin grid0.N, _)

/-- The table at a grid point: the rows of the labels are the centroids. -/
theorem table_at (a : Fin 128) (x : Fin 768) (l : Fin 77) (h : a.val = l.val) :
    iblk m c 8 t (ix2 a x) = m ((c.tc : Thread nD τ).loc main_arg1) (ix2 l x) := by
  refine Eq.trans ?_ (V_table m c a x l h)
  refine congrArg (V m c main_v0) (?_ : ((cfg0.win 8).blk t).view.emb (ix2 a x) = ix2 a x)
  have h := (idx_whole t).1
  blk_ext [h]

/-- The logits at a grid point: those of the labels are the argument's. -/
theorem logit_at (a : Fin 128) (l : Fin 77) (h : a.val = l.val) :
    iblk m c 33 t (ix2 a 0) = m ((c.tc : Thread nD τ).loc main_arg5) (ix1 l) := by
  refine Eq.trans ?_ (V_logit m c a l h)
  refine congrArg (V m c main_v2) (?_ : ((cfg0.win 33).blk t).view.emb (ix2 a 0) = ix2 a 0)
  have h := (idx_whole t).2
  blk_ext [h]

/-- The table is the same at every grid point. -/
theorem table_const (t' : Fin cfg0.N) : iblk m c 8 t = iblk m c 8 t' := by
  have e : ∀ u : Fin cfg0.N, iblk m c 8 u = V m c main_v0 := fun u => by
    funext j
    refine congrArg (V m c main_v0) (?_ : ((cfg0.win 8).blk u).view.emb j = j)
    have h := (idx_whole u).1
    blk_ext [h]
  rw [e, e]

end Cert.KernelIdeal.Hand

end
-- ==== Proof.RefTerm.lean ====
/- The reference's printed result, written with names for its parts and read at an index, on the extended reals, where the
   labels are in range. -/
module

public import proofs.«01_k».proof.Proof.Gen.ReferenceIdeal.Run
public import proofs.«01_k».proof.Proof.Row
public import proofs.«01_k».proof.Proof.Consts
public import Idealize.ShloMosaic.Lib.Pipeline.ValueKit
public import Idealize.ShloMosaic.Lib.Routing.Ops
public import Idealize.ShloMosaic.Lib.Routing.OpsSet
public import Idealize.ShloMosaic.Lib.Tactic.WordOmega

@[expose] public section

set_option maxRecDepth 16384

noncomputable section

namespace Cert.ReferenceIdeal.Hand

open Idealize.ShloMosaic Idealize.ShloMosaic.TcCoe Idealize.SL.Sem Cert.ReferenceIdeal Cert.ReferenceIdeal.Gen

variable {F : FTy → Type} [FloatOps F] [Named F]

/-- The softplus of the radii's logits, as jax prints it. -/
def soft (δ : FVec F S77 .f32) : FVec F S77 .f32 :=
  have z : FVec F S77 .f32 := broadcastInDim S77 ![] bcast_S_S77 (constant S_ .f32 0x00000000#32)
  select (cmpf .une (subf δ z) (subf δ z)) (addf δ z)
    (addf (maximumf δ z) (Host.log1p (Host.exp (Host.negf (Host.absf (subf δ z))))))

/-- The labels as start indices: a negative one counted from the end. -/
def starts (lbl : IVec S16384 32) : IVec S16384x1 32 :=
  broadcastInDim S16384x1 ![0] bcast_S16384_S16384x1_0
    (select (cmpi .slt lbl (broadcastInDim S16384 ![] bcast_S_S16384 (constantI S_ 32 0#32)))
      (addi lbl (broadcastInDim S16384 ![] bcast_S_S16384 (constantI S_ 32 77#32))) lbl)

/-- Which labels lie in the table. -/
def inTable (lbl : IVec S16384 32) : IVec S16384 1 :=
  Host.reduce IntOp.andi
    (andi (cmpi .sge (starts lbl) (broadcastInDim S16384x1 ![] bcast_S_S16384x1 (constantI S_ 32 0#32)))
      (cmpi .sle (starts lbl) (broadcastInDim S16384x1 ![0, 1] bcast_S1x1_S16384x1_0_1
        (broadcastInDim S1x1 ![1] bcast_S1_S1x1_1 (constantI S1 32 76#32)))))
    (constantI S_ 1 1#1) reducesTo_S16384x1_S16384_d1 h_S_

/-- The table row of every label. -/
def takeRows (c : FVec F S77x768 .f32) (lbl : IVec S16384 32) : FVec F S16384x768 .f32 :=
  select (broadcastInDim S16384x768 ![0] bcast_S16384_S16384x768_0 (inTable lbl))
    (Host.gather gather_S77x768_S16384x1_S16384x768_1_0_n_n_0_1_1768 c (starts lbl))
    (broadcastInDim S16384x768 ![] bcast_S_S16384x768 (constant S_ .f32 0x7FC00000#32))

/-- The radius of every label. -/
def takeRadius (d : FVec F S77 .f32) (lbl : IVec S16384 32) : FVec F S16384 .f32 :=
  select (inTable lbl) (Host.gather gather_S77_S16384x1_S16384_n_0_n_n_0_1_1 d (starts lbl))
    (broadcastInDim S16384 ![] bcast_S_S16384 (constant S_ .f32 0x7FC00000#32))

/-- Every row's distance to its label's table row. -/
def dist (x c : FVec F S16384x768 .f32) : FVec F S16384 .f32 :=
  Host.sqrt (Host.reduceAdd (mulf (subf x c) (subf x c)) (constant S_ .f32 0x00000000#32) reducesTo_S16384x768_S16384_d1 h_S_)

/-- Every row's density weight. -/
def weight (ds dd : FVec F S16384 .f32) : FVec F S16384 .f32 :=
  Host.divf ds (addf (addf ds dd) (broadcastInDim S16384 ![] bcast_S_S16384 (constant S_ .f32 0x358637BD#32)))

/-- The mean of 16384 values. -/
def mean (a : FVec F S16384 .f32) : FVec F S_ .f32 :=
  Host.divf (Host.reduceAdd a (constant S_ .f32 0x00000000#32) reducesTo_S16384_S_d0 h_S_) (constant S_ .f32 0x46800000#32)

/-- The loss of the rows outside the boundary. -/
def posLoss (e d v : FVec F S16384 .f32) : FVec F S16384 .f32 :=
  mulf (subf e d) (mulf (uitofp .f32 (cmpf .ogt e d)) v)

/-- The loss of the rows inside the boundary. -/
def negLoss (e d v : FVec F S16384 .f32) : FVec F S16384 .f32 :=
  mulf (subf d e) (mulf (uitofp .f32 (cmpf .olt e d)) v)

/-- The regularizer: the mean radius, weighted. -/
def reg (d : FVec F S77 .f32) : FVec F S_ .f32 :=
  mulf (Host.divf (constant S_ .f32 0x3F000000#32) (constant S_ .f32 0x42980000#32))
    (Host.divf (Host.reduceAdd d (constant S_ .f32 0x00000000#32) reducesTo_S77_S_d0 h_S_) (constant S_ .f32 0x429A0000#32))

/-- The loss, from the arrays. -/
def loss (x : FVec F S16384x768 .f32) (c : FVec F S77x768 .f32) (lbl : IVec S16384 32) (ds dd : FVec F S16384 .f32)
    (δ : FVec F S77 .f32) : FVec F S_ .f32 :=
  have e : FVec F S16384 .f32 := dist x (takeRows c lbl)
  have d : FVec F S16384 .f32 := takeRadius (soft δ) lbl
  have v : FVec F S16384 .f32 := weight ds dd
  addf (addf (mean (posLoss e d v)) (mean (negLoss e d v))) (reg (soft δ))

/-- The printed result is `loss` of the argument arrays. -/
theorem res_eq (m : (ℓ : Loc nD τ sig) → Buf (Elt F) ℓ) (c : Dev nD) :
    Value.res_main_v28 m c = loss (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5)) := rfl

/-! ## At an index, at the extended reals -/

/-- The softplus at a label is `Cert.Row.softplus` of its logit. -/
theorem soft_at (δ : FVec Ideal S77 .f32) (j : S77.Idx) : soft δ j = Cert.Row.softplus (δ j) := by
  pointwise [soft]
  simp [Cert.Row.softplus, Ideal.absf_def]

/-- A label's word, in range. -/
theorem starts_at (lbl : IVec S16384 32) (p : Fin 16384) (l : Fin 77) (hl : lbl (ix1 p) = BitVec.ofNat 32 l.val) :
    starts lbl (ix2 p 0) = BitVec.ofNat 32 l.val := by
  pointwise [starts]
  rw [hl]
  clear hl
  revert l
  decide +kernel

/-- Both bounds hold of a label in range. -/
theorem bounds (l : Fin 77) :
    IntOp.andi (IntOp.andi (IntOp.cmpi .sge (BitVec.ofNat 32 l.val) 0#32) (IntOp.cmpi .sle (BitVec.ofNat 32 l.val) 76#32)) 1#1
      = 1#1 := by
  revert l
  decide +kernel

/-- A label in range is found to be in the table. -/
theorem inTable_at (lbl : IVec S16384 32) (p : Fin 16384) (l : Fin 77) (hl : lbl (ix1 p) = BitVec.ofNat 32 l.val) :
    inTable lbl (ix1 p) = 1#1 := by
  pointwise [inTable]
  rw [Finset.univ_unique, Finset.fold_singleton, show (default : Fin 1) = 0 from rfl, starts_at lbl p l hl]
  exact bounds l

/-- The table row taken for a label in range. -/
theorem takeRows_at (c : FVec Ideal S77x768 .f32) (lbl : IVec S16384 32) (p : Fin 16384) (k : Fin 768) (l : Fin 77)
    (hl : lbl (ix1 p) = BitVec.ofNat 32 l.val) : takeRows c lbl (ix2 p k) = c (ix2 l k) := by
  pointwise [takeRows]
  rw [inTable_at lbl p l hl]
  refine (if_pos rfl).trans ?_
  exact Routing.gather_row gather_S77x768_S16384x1_S16384x768_1_0_n_n_0_1_1768 rfl rfl rfl rfl rfl c (starts lbl) p k l
    (starts_at lbl p l hl) (by norm_num)

/-- The radius taken for a label in range. -/
theorem takeRadius_at (d : FVec Ideal S77 .f32) (lbl : IVec S16384 32) (p : Fin 16384) (l : Fin 77)
    (hl : lbl (ix1 p) = BitVec.ofNat 32 l.val) : takeRadius d lbl (ix1 p) = d (ix1 l) := by
  pointwise [takeRadius]
  rw [inTable_at lbl p l hl]
  refine (if_pos rfl).trans ?_
  exact Routing.gather_take1 gather_S77_S16384x1_S16384_n_0_n_n_0_1_1 rfl rfl rfl rfl d (starts lbl) p l
    (starts_at lbl p l hl) (by norm_num)

/-- The bit of a test, as a float. -/
theorem flag (p : Prop) [Decidable p] :
    FloatOps.uitofp (F := Ideal) .f32 (BitVec.ofBool (decide p)) = if p then (1 : EReal) else 0 := by
  show (((BitVec.ofBool (decide p)).toNat : ℝ) : EReal) = _
  by_cases h : p
  · rw [if_pos h, decide_eq_true h]
    exact congrArg _ (by norm_num : ((1 : ℕ) : ℝ) = 1)
  · rw [if_neg h, decide_eq_false h]
    exact congrArg _ (by norm_num : ((0 : ℕ) : ℝ) = 0)

variable (x : FVec Ideal S16384x768 .f32) (c : FVec Ideal S77x768 .f32) (lbl : IVec S16384 32) (ds dd : FVec Ideal S16384 .f32)
  (δ : FVec Ideal S77 .f32) (L : Fin 16384 → Fin 77) (hL : ∀ p, lbl (ix1 p) = BitVec.ofNat 32 (L p).val)

/-- The distance of row `p` to the table row of its label. -/
def distAt (p : Fin 16384) : EReal := Cert.Row.refDist (fun k : Fin 768 => x (ix2 p k)) fun k => c (ix2 (L p) k)

/-- The weight of row `p`. -/
def weightAt (p : Fin 16384) : EReal :=
  Ideal.div (ds (ix1 p)) (ds (ix1 p) + dd (ix1 p) + Ideal.ofBits .f32 0x358637BD#32)

include hL in
/-- The loss: the mean over the rows outside, the mean over the rows inside, and the weighted mean of the radii. -/
theorem loss_at (j : S_.Idx) :
    loss x c lbl ds dd δ j
      = Ideal.div (∑ p : Fin 16384, Cert.Row.refPos (distAt x c L p) (Cert.Row.softplus (δ (ix1 (L p)))) (weightAt ds dd p))
            (Ideal.ofBits .f32 0x46800000#32)
          + Ideal.div (∑ p : Fin 16384, Cert.Row.refNeg (distAt x c L p) (Cert.Row.softplus (δ (ix1 (L p)))) (weightAt ds dd p))
              (Ideal.ofBits .f32 0x46800000#32)
          + Ideal.div (Ideal.ofBits .f32 0x3F000000#32) (Ideal.ofBits .f32 0x42980000#32)
              * Ideal.div (∑ l : Fin 77, Cert.Row.softplus (δ (ix1 l))) (Ideal.ofBits .f32 0x429A0000#32) := by
  pointwise [loss, mean, posLoss, negLoss, reg, dist, weight]
  simp only [takeRows_at c lbl _ _ _ (hL _), takeRadius_at (soft δ) lbl _ _ (hL _), soft_at, flag]
  rfl

end Cert.ReferenceIdeal.Hand

end
-- ==== Proof.Point.lean ====
/- One grid point of the kernel: the loss of its eight blocks of 512 rows, as the reference's two branches summed over those rows. -/
module

public import proofs.«01_k».proof.Proof.Contrib
public import proofs.«01_k».proof.Proof.Entry
public import proofs.«01_k».proof.Proof.RefTerm

@[expose] public section

set_option maxRecDepth 16384

noncomputable section

namespace Cert.KernelIdeal.Hand

open Idealize.ShloMosaic Idealize.ShloMosaic.TcCoe Idealize.SL.Sem Cert.KernelIdeal Cert.KernelIdeal.Gen
open Cert.Total (rowOf scale)
open Cert.ReferenceIdeal.Hand (distAt)

section

variable {F : FTy → Type} [FloatOps F] [Named F]
variable (δ : Vec F S128x1 .f32) (C : Vec F S128x768 .f32) (X : Fin 8 → Vec F S1x512x768 .f32)
  (lbl : Fin 8 → Vec F S1x1x1x512 .i32) (ds dd : Fin 8 → Vec F S1x1x1x512 .f32)

/-- Stream `k`'s part of a grid point's loss. -/
def part (k : Fin 8) : FVec F S1x1 .f32 :=
  streamSum (k0_pay3 δ) (k0_pay4 C) (k0_pay5 C) (X k) (lbl k) (ds k) (dd k)

/-- A grid point's loss: its eight streams' parts added up in turn, divided by the number of rows. -/
def pointLoss : FVec F S1x1 .f32 :=
  mulf (addf (addf (addf (addf (addf (addf (addf (addf k0_pay6 (part δ C X lbl ds dd 0)) (part δ C X lbl ds dd 1))
      (part δ C X lbl ds dd 2)) (part δ C X lbl ds dd 3)) (part δ C X lbl ds dd 4)) (part δ C X lbl ds dd 5))
      (part δ C X lbl ds dd 6)) (part δ C X lbl ds dd 7))
    (broadcast S1x1 (Scalar.ofBits .f32 0x38800000#32))

end

/-- The running total starts at zero. -/
theorem zero_at (j : S1x1.Idx) : k0_pay6 (F := Ideal) j = 0 := by
  pointwise [k0_pay6]

/-- The radii: the softplus of the logits. -/
theorem radii_at (δ : Vec Ideal S128x1 .f32) (j : S128x1.Idx) : k0_pay3 δ j = Cert.Row.softplus (δ j) := by
  pointwise [k0_pay3]
  simp [Cert.Row.softplus, Ideal.absf_def]

/-- The table is used as it is. -/
theorem table_id (C : Vec Ideal S128x768 .f32) : k0_pay4 C = C := by
  funext j
  pointwise [k0_pay4]

/-- The table's squared norms are those of the table. -/
theorem norms (C : Vec Ideal S128x768 .f32) : k0_pay5 C = tableSq C := by
  funext j
  pointwise [k0_pay5, tableSq, k0_pay4]

/-- A grid point's loss at its one index: the parts' sum, scaled. -/
theorem pointLoss_sum (δ : Vec Ideal S128x1 .f32) (C : Vec Ideal S128x768 .f32) (X : Fin 8 → Vec Ideal S1x512x768 .f32)
    (lbl : Fin 8 → Vec Ideal S1x1x1x512 .i32) (ds dd : Fin 8 → Vec Ideal S1x1x1x512 .f32) (j : S1x1.Idx) :
    pointLoss δ C X lbl ds dd j
      = (∑ k : Fin 8, ∑ q : Fin 512, contrib (k0_pay3 δ) C (tableSq C) (X k) (lbl k) (ds k) (dd k) (ix2 0 q)) * scale := by
  have e : ∀ k, part δ C X lbl ds dd k j
      = ∑ q : Fin 512, contrib (k0_pay3 δ) C (tableSq C) (X k) (lbl k) (ds k) (dd k) (ix2 0 q) := fun k => by
    unfold part
    rw [table_id, norms]
    exact streamSum_at _ _ _ _ _ _ _ j
  have e' : pointLoss δ C X lbl ds dd j = (∑ k : Fin 8, part δ C X lbl ds dd k j) * scale := by
    rw [scale, ← Cert.Consts.inv_rows, Fin.sum_univ_eight]
    unfold pointLoss
    generalize part δ C X lbl ds dd = P
    refine Eq.trans (b := (k0_pay6 (F := Ideal) j + P 0 j + P 1 j + P 2 j + P 3 j + P 4 j + P 5 j + P 6 j + P 7 j) * _) rfl ?_
    rw [zero_at, zero_add]
    rfl
  rw [e']
  exact congrArg (· * scale) (Finset.sum_congr rfl fun k _ => e k)

variable (m : (ℓ : Loc nD τ sig) → Buf (Elt Ideal) ℓ) (c : Dev nD) (t : Fin cfg0.N)

/-- The loss of row `p` outside the boundary, of the argument arrays and the labels `L`. -/
def outside (L : Fin 16384 → Fin 77) (p : Fin 16384) : EReal :=
  Cert.Row.refPos (distAt (m ((c.tc : Thread nD τ).loc main_arg0)) (m ((c.tc : Thread nD τ).loc main_arg1)) L p)
    (Cert.Row.softplus (m ((c.tc : Thread nD τ).loc main_arg5) (ix1 (L p))))
    (Cert.ReferenceIdeal.Hand.weightAt (m ((c.tc : Thread nD τ).loc main_arg3)) (m ((c.tc : Thread nD τ).loc main_arg4)) p)

/-- The loss of row `p` inside the boundary. -/
def inside (L : Fin 16384 → Fin 77) (p : Fin 16384) : EReal :=
  Cert.Row.refNeg (distAt (m ((c.tc : Thread nD τ).loc main_arg0)) (m ((c.tc : Thread nD τ).loc main_arg1)) L p)
    (Cert.Row.softplus (m ((c.tc : Thread nD τ).loc main_arg5) (ix1 (L p))))
    (Cert.ReferenceIdeal.Hand.weightAt (m ((c.tc : Thread nD τ).loc main_arg3)) (m ((c.tc : Thread nD τ).loc main_arg4)) p)

/-- A grid point's loss, of finite rows and centroids and labels in range: the two branches over the point's rows, scaled. -/
theorem pointLoss_at (L : Fin 16384 → Fin 77)
    (hL : ∀ p, m ((c.tc : Thread nD τ).loc main_arg2) (ix1 p) = BitVec.ofNat 32 (L p).val)
    (x : Fin 16384 → Fin 768 → ℝ) (hx : ∀ p k, m ((c.tc : Thread nD τ).loc main_arg0) (ix2 p k) = (x p k : EReal))
    (y : Fin 77 → Fin 768 → ℝ) (hy : ∀ l k, m ((c.tc : Thread nD τ).loc main_arg1) (ix2 l k) = (y l k : EReal)) (j : S1x1.Idx) :
    pointLoss (iblk m c 33 t) (iblk m c 8 t) (xs m c t) (ls m c t) (ss m c t) (es m c t) j
      = (∑ k : Fin 8, ∑ q : Fin 512, (outside m c L (rowOf k (pt t) q) + inside m c L (rowOf k (pt t) q))) * scale := by
  refine (pointLoss_sum _ _ _ _ _ _ j).trans (congrArg (· * scale) ?_)
  refine Finset.sum_congr rfl fun k _ => Finset.sum_congr rfl fun q _ => ?_
  have hl : ls m c t k (ix4 0 0 0 q) = BitVec.ofNat 32 (Fin.castLE (by norm_num) (L (rowOf k (pt t) q)) : Fin 128).val :=
    (ls_at m c t k q).trans (hL _)
  rw [contrib_at _ _ _ _ _ _ q _ hl, radii_at, ss_at, es_at, logit_at m c t _ (L (rowOf k (pt t) q)) rfl]
  have ex : (fun a : Fin 768 => xs m c t k (ix3 0 q a)) = fun a => (x (rowOf k (pt t) q) a : EReal) :=
    funext fun a => (xs_at m c t k q a).trans (hx _ _)
  have ey : (fun a : Fin 768 => iblk m c 8 t (ix2 (Fin.castLE (by norm_num) (L (rowOf k (pt t) q)) : Fin 128) a))
      = fun a => (y (L (rowOf k (pt t) q)) a : EReal) :=
    funext fun a => (table_at m c t _ a (L (rowOf k (pt t) q)) rfl).trans (hy _ _)
  rw [ex, ey, Cert.Row.row_eq _ _ (Cert.Row.softplus_nonneg _)]
  unfold outside inside distAt
  simp only [hx, hy]
  rfl

end Cert.KernelIdeal.Hand

end
-- ==== Proof.Regular.lean ====
/- The kernel's regularizer and the softplus of the radii, against the reference's. -/
module

public import proofs.«01_k».proof.Proof.Point
public import Idealize.ShloMosaic.PureOps.IdealRules

@[expose] public section

set_option maxRecDepth 16384

noncomputable section

namespace Cert.KernelIdeal.Hand

open Idealize.ShloMosaic Idealize.ShloMosaic.TcCoe Idealize.SL.Sem Cert.KernelIdeal Cert.KernelIdeal.Gen

/-- The mask of the padded radii, as a float: 1 at the 77 labels, 0 at the padding. -/
theorem mask_at (x : Fin 128) :
    FloatOps.sitofp (F := Ideal) .f32 (BitVec.setWidth 32 (IntOp.cmpi .slt (BitVec.ofNat 32 x.val) 77#32))
      = if x.val < 77 then (1 : EReal) else 0 := by
  have h : (BitVec.setWidth 32 (IntOp.cmpi .slt (BitVec.ofNat 32 x.val) 77#32)).toInt = if x.val < 77 then 1 else 0 := by
    revert x
    decide +kernel
  show (((BitVec.setWidth 32 (IntOp.cmpi .slt (BitVec.ofNat 32 x.val) 77#32)).toInt : ℝ) : EReal) = _
  rw [h]
  split_ifs <;> norm_num

/-- The regularizer of 128 radii: the masked sum, times 1 / 11704. -/
theorem reg_sum (v : FVec Ideal S128x1 .f32) (j : S1x1.Idx) :
    k0_pay50 v j = (∑ x : Fin 128, v (ix2 x 0)
        * FloatOps.sitofp (F := Ideal) .f32 (BitVec.setWidth 32 (IntOp.cmpi .slt (BitVec.ofNat 32 x.val) 77#32)))
      * ((1 / 11704 : ℝ) : EReal) := by
  pointwise [k0_pay50]
  rw [IdealRules.named_const.ideal_named_scalar _ _ _ ((1 / 11704 : ℝ) : EReal) rfl]
  refine congrArg (· * _) (Finset.sum_congr rfl fun x _ => ?_)
  exact Fin.sum_univ_one _

variable (m : (ℓ : Loc nD τ sig) → Buf (Elt Ideal) ℓ) (c : Dev nD) (t : Fin cfg0.N)

/-- The kernel's regularizer is the reference's. -/
theorem reg_at (j : S1x1.Idx) :
    k0_pay50 (k0_pay3 (iblk m c 33 t)) j
      = Ideal.div (Ideal.ofBits .f32 0x3F000000#32) (Ideal.ofBits .f32 0x42980000#32)
          * Ideal.div (∑ l : Fin 77, Cert.Row.softplus (m ((c.tc : Thread nD τ).loc main_arg5) (ix1 l)))
              (Ideal.ofBits .f32 0x429A0000#32) := by
  rw [reg_sum]
  refine Cert.Total.reg (fun x => k0_pay3 (F := Ideal) (iblk m c 33 t) (ix2 x 0)) _ _ mask_at fun l => ?_
  show k0_pay3 (F := Ideal) (iblk m c 33 t) (ix2 _ 0) = _
  rw [radii_at, logit_at m c t _ l rfl]

end Cert.KernelIdeal.Hand

end
-- ==== Proof.Tail.lean ====
/- The lines after the launch: the loss is the one element of the first output array, the radii are the first 77 rows of the second. -/
module

public import proofs.«01_k».proof.Proof.Gen.KernelIdeal.Frame.Runs
public import Idealize.ShloMosaic.Lib.Pipeline.ValueKit
public import Idealize.ShloMosaic.Lib.Claim

@[expose] public section

set_option maxRecDepth 16384

noncomputable section

namespace Cert.KernelIdeal.Hand

open Idealize.ShloMosaic Idealize.ShloMosaic.TcCoe Idealize.SL.Sem Cert.KernelIdeal Cert.KernelIdeal.Gen
open Idealize.ShloMosaic.Pipeline (Dat)

/-- A 1 x 1 array has one index. -/
theorem one_index (i j : S1x1.Idx) : i = j := by
  have h : ∀ a, S1x1.size a = 1 := by decide
  exact funext fun a => Fin.ext (by have := (i a).isLt; have := (j a).isLt; have := h a; omega)

variable {F : FTy → Type} [FloatOps F] [Named F]
variable (m : (ℓ : Loc nD τ sig) → Buf (Elt F) ℓ)
  (dats : (p : Fin 1) → (c : Dev nD) → Dat τ (Elt F) Unit ℕ (UR sig nD τ) ℕ (cfgs p) c)
  (hA : ∀ c w, (dats 0 c).A w = V m c (Pipeline.arrRef spec0 w)) (c : Dev nD)

include hA

/-- The scalar result is the first output's one element. -/
theorem tail_loss (j : S_.Idx) :
    Pipeline.afterTail₀ cfgs dats 0 (V0 m) [hostOps1] c main_v8 j = (dats 0 c).arrAt 34 cfg0.N (ix2 0 0) := by
  unfold Pipeline.afterTail₀
  simp only [hostOps1, List.flatten_cons, List.flatten_nil, List.append_nil, List.cons_append, List.nil_append]
  after_results_simp
  rw [Dat.withArrays_arrAt (dats 0 c) sharedIn0 (V0 m c) (hA c) 34]
  generalize (dats 0 c).arrAt 34 (cfgs 0).N = A
  show shapeCast S_ (A : Vec F S1x1 .f32) shapeCasts_S1x1_S_ j = (A : Vec F S1x1 .f32) _
  exact congrArg A (one_index _ _)

/-- The vector result is the first 77 rows of the second output. -/
theorem tail_radii (l : Fin 77) :
    Pipeline.afterTail₀ cfgs dats 0 (V0 m) [hostOps1] c main_v10 (ix1 l)
      = (dats 0 c).arrAt 35 cfg0.N (ix2 (Fin.castLE (by norm_num) l) 0) := by
  unfold Pipeline.afterTail₀
  simp only [hostOps1, List.flatten_cons, List.flatten_nil, List.append_nil, List.cons_append, List.nil_append]
  after_results_simp
  rw [Dat.withArrays_arrAt (dats 0 c) sharedIn0 (V0 m c) (hA c) 35]
  generalize (dats 0 c).arrAt 35 (cfgs 0).N = A
  show shapeCast S77 (extractStridedSlice S77x1 ![0, 0] (A : Vec F S128x1 .f32) slices_S128x1_S77x1_0_0) shapeCasts_S77x1_S77 (ix1 l)
    = (A : Vec F S128x1 .f32) _
  pointwise
  rfl

end Cert.KernelIdeal.Hand

end
-- ==== Proof.Value.lean ====
/- What the launch leaves in its two output arrays, point by point and at the end. -/
module

public import proofs.«01_k».proof.Proof.KernelIdealFrame
public import proofs.«01_k».proof.Proof.Regular
public import proofs.«01_k».proof.Proof.Tail

@[expose] public section

set_option maxRecDepth 16384

noncomputable section

namespace Cert.KernelIdeal.Hand

open Idealize.ShloMosaic Idealize.ShloMosaic.TcCoe Idealize.ShloMosaic.Tactic Idealize.SL.Sem Cert.KernelIdeal Cert.KernelIdeal.Gen

section

variable {F : FTy → Type} [FloatOps F] [Named F]
variable (m : (ℓ : Loc nD τ sig) → Buf (Elt F) ℓ) (c : Dev nD) (t : Fin cfg0.N)

/-- The loss of the rows of a grid point. -/
def lossAt : FVec F S1x1 .f32 :=
  pointLoss (iblk m c 33 t) (iblk m c 8 t) (xs m c t) (ls m c t) (ss m c t) (es m c t)

set_option maxHeartbeats 1000000 in
/-- After the first point the loss is that point's and the regularizer. -/
theorem loss_first (h0 : t.val % 4 = 0) (h1 : ¬1 ≤ t.val) (j : S1x1.Idx) :
    (outsAt0 m c t.val t.isLt).1 j = k0_pay1 (lossAt m c t) (k0_pay50 (k0_pay3 (iblk m c 33 t))) j := by
  rw [outsAt0_A m c t h0 h1]
  frame_out
  rw [stream0, stream1, stream2, stream3, stream4, stream5, stream6, stream7]
  rfl

set_option maxHeartbeats 1000000 in
/-- After a later point the loss is what it was and that point's. -/
theorem loss_later (h0 : ¬t.val % 4 = 0) (h1 : 1 ≤ t.val) (j : S1x1.Idx) :
    (outsAt0 m c t.val t.isLt).1 j
      = k0_pay2 (lossAt m c t) (outsAt0 m c (t.val - 1) (lt_of_le_of_lt (Nat.sub_le _ _) t.isLt)).1 j := by
  rw [outsAt0_B m c t h0 h1]
  frame_out
  rw [stream0, stream1, stream2, stream3, stream4, stream5, stream6, stream7]
  rfl

set_option maxHeartbeats 1000000 in
/-- After the last point the second output holds the radii. -/
theorem radii_last (h0 : ¬t.val % 4 = 0) (h1 : 1 ≤ t.val) (j : S128x1.Idx) :
    (outsAt0 m c t.val t.isLt).2 j = k0_pay3 (iblk m c 33 t) j := by
  rw [outsAt0_B m c t h0 h1]
  frame_out

/-- The first point adds the regularizer to its loss. -/
theorem first_add (a b : FVec F S1x1 .f32) (j : S1x1.Idx) : k0_pay1 a b j = FloatOps.addf (a j) (b j) := rfl

/-- A later point adds its loss to the sum so far. -/
theorem later_add (a b : FVec F S1x1 .f32) (j : S1x1.Idx) : k0_pay2 a b j = FloatOps.addf (b j) (a j) := by
  pointwise [k0_pay2]

/-- The four grid points. -/
def point (s : Fin 4) : Fin cfg0.N := ⟨s.val, lt_of_lt_of_eq s.isLt (by decide +kernel)⟩

/-- The first point starts the sum. -/
theorem zero : (point 0).val % 4 = 0 ∧ ¬1 ≤ (point 0).val := by decide +kernel

/-- The second point adds to it. -/
theorem one : ¬(point 1).val % 4 = 0 ∧ 1 ≤ (point 1).val := by decide +kernel

/-- The third point adds to it. -/
theorem two : ¬(point 2).val % 4 = 0 ∧ 1 ≤ (point 2).val := by decide +kernel

/-- The fourth point adds to it. -/
theorem three : ¬(point 3).val % 4 = 0 ∧ 1 ≤ (point 3).val := by decide +kernel

/-- The loss after the last point: the four points' values added up, the first with the regularizer. -/
theorem loss_last (j : S1x1.Idx) :
    (outsAt0 m c (point 3).val (point 3).isLt).1 j
      = FloatOps.addf (FloatOps.addf (FloatOps.addf (FloatOps.addf (lossAt m c (point 0) j)
          (k0_pay50 (k0_pay3 (iblk m c 33 (point 0))) j)) (lossAt m c (point 1) j)) (lossAt m c (point 2) j)) (lossAt m c (point 3) j) := by
  rw [loss_later m c (point 3) three.1 three.2 j, later_add,
    show (outsAt0 m c ((point 3).val - 1) _).1 j = _ from loss_later m c (point 2) two.1 two.2 j, later_add,
    show (outsAt0 m c ((point 2).val - 1) _).1 j = _ from loss_later m c (point 1) one.1 one.2 j, later_add,
    show (outsAt0 m c ((point 1).val - 1) _).1 j = _ from loss_first m c (point 0) zero.1 zero.2 j, first_add]

/-- The first output array at the end: the loss after the last point. -/
theorem first_output (j : S1x1.Idx) :
    ((dats m 0 c).arrAt 34 cfg0.N : Vec F S1x1 .f32) j = (outsAt0 m c (point 3).val (point 3).isLt).1 j := by
  refine congrFun ((dats m 0 c).arrAt_eq_of_after_last 34 (point 3) (by decide +kernel)
    (outsAt0 m c (point 3).val (point 3).isLt).1 fun i => ?_) j
  blk_simp
  rw [after0_34]

/-- The second output array at the end: the radii after the last point. -/
theorem second_output (j : S128x1.Idx) :
    ((dats m 0 c).arrAt 35 cfg0.N : Vec F S128x1 .f32) j = (outsAt0 m c (point 3).val (point 3).isLt).2 j := by
  refine congrFun ((dats m 0 c).arrAt_eq_of_after_last 35 (point 3) (by decide +kernel)
    (outsAt0 m c (point 3).val (point 3).isLt).2 fun i => ?_) j
  blk_simp
  rw [after0_35]

end

/-! ## At the extended reals -/

variable (m : (ℓ : Loc nD τ sig) → Buf (Elt Ideal) ℓ) (c : Dev nD)

/-- The first output array's element, of finite rows and centroids and labels in range: the mean over the rows outside, the mean over
    the rows inside, and the weighted mean of the radii. -/
theorem loss_value (L : Fin 16384 → Fin 77)
    (hL : ∀ p, m ((c.tc : Thread nD τ).loc main_arg2) (ix1 p) = BitVec.ofNat 32 (L p).val)
    (x : Fin 16384 → Fin 768 → ℝ) (hx : ∀ p k, m ((c.tc : Thread nD τ).loc main_arg0) (ix2 p k) = (x p k : EReal))
    (y : Fin 77 → Fin 768 → ℝ) (hy : ∀ l k, m ((c.tc : Thread nD τ).loc main_arg1) (ix2 l k) = (y l k : EReal)) (j : S1x1.Idx) :
    ((dats m 0 c).arrAt 34 cfg0.N : Vec Ideal S1x1 .f32) j
      = Ideal.div (∑ p, outside m c L p) (Ideal.ofBits .f32 0x46800000#32)
          + Ideal.div (∑ p, inside m c L p) (Ideal.ofBits .f32 0x46800000#32)
          + Ideal.div (Ideal.ofBits .f32 0x3F000000#32) (Ideal.ofBits .f32 0x42980000#32)
              * Ideal.div (∑ l : Fin 77, Cert.Row.softplus (m ((c.tc : Thread nD τ).loc main_arg5) (ix1 l)))
                  (Ideal.ofBits .f32 0x429A0000#32) := by
  rw [first_output, loss_last, reg_at]
  exact Cert.Total.total (outside m c L) (inside m c L) _ (fun s => lossAt m c (point s) j) fun s =>
    pointLoss_at m c (point s) L hL x hx y hy j

/-- The second output array's rows: the radii. -/
theorem radii_value (a : Fin 128) (l : Fin 77) (h : a.val = l.val) :
    ((dats m 0 c).arrAt 35 cfg0.N : Vec Ideal S128x1 .f32) (ix2 a 0)
      = Cert.Row.softplus (m ((c.tc : Thread nD τ).loc main_arg5) (ix1 l)) := by
  rw [second_output, radii_last m c (point 3) three.1 three.2, radii_at, logit_at m c _ a l h]

end Cert.KernelIdeal.Hand

end
-- ==== Proof.Algebra.lean ====
/- The equation of the two programs' results, on memories that agree on the arguments. -/
module

public import proofs.«01_k».proof.Proof.Value
public import proofs.«01_k».proof.Proof.Tail
public import proofs.«01_k».proof.Proof.Assumed
public import proofs.«01_k».proof.Proof.RefTerm
public import proofs.«01_k».proof.Proof.Gen.ReferenceIdeal.Run

@[expose] public section

set_option maxRecDepth 16384

noncomputable section

namespace Cert.Proof

open Idealize.ShloMosaic Idealize.ShloMosaic.TcCoe Idealize.ShloMosaic.Tactic Idealize.SL.Sem
open Cert.Assumed (pre_facts)

/-- Two vectors of 77 values are equal when they are at every index. -/
theorem of_index {a b : FVec Ideal Cert.ReferenceIdeal.S77 .f32} (h : ∀ l : Fin 77, a (ix1 l) = b (ix1 l)) : a = b :=
  funext fun j => by rw [show j = ix1 (j 0) from funext fun i => by fin_cases i; rfl]; exact h _

/-- The kernel and the reference return the same loss and the same radii. -/
theorem algebraic : Cert.algebraic_KernelIdeal_ReferenceIdeal_pre_finite_rows_and_labels := by
  pair_intro
  · run_from Cert.KernelIdeal.Gen.run_main m g & Cert.KernelIdeal.Gen.unchanged m g
  · run_from Cert.ReferenceIdeal.Value.run m' g'
    · rw [Cert.ReferenceIdeal.Hand.res_eq]
      obtain ⟨e0, e1, e2, e3, e4, e5⟩ := hagree c
      rw [e0, e1, e2, e3, e4, e5]
      obtain ⟨x, y, L, hx, hy, hL⟩ := Cert.Assumed.values m hpre c
      funext j
      rw [Cert.KernelIdeal.Hand.tail_loss m _ (Cert.KernelIdeal.Gen.A_eq m) c j]
      exact (Cert.ReferenceIdeal.Hand.loss_at _ _ _ _ _ _ L hL j).trans
        (Cert.KernelIdeal.Hand.loss_value m c L hL x hx y hy _).symm
    · refine Cert.Proof.of_index fun l => ?_
      rw [Cert.KernelIdeal.Hand.tail_radii m _ (Cert.KernelIdeal.Gen.A_eq m) c l, Cert.KernelIdeal.Hand.radii_value m c _ l rfl]
      exact Cert.ReferenceIdeal.Hand.soft_at (m ((c.tc : Thread Cert.KernelIdeal.nD Cert.KernelIdeal.τ).loc Cert.KernelIdeal.main_arg5)) (ix1 l)

end Cert.Proof

end
-- ==== Proof.lean ====
/- The certificate's claim: the three programs run to the end and leave their arguments as they were, the kernel on the extended reals is
   the kernel with a named constant, and it computes what the reference does. -/
module

public import proofs.«01_k».proof.Defs
public import proofs.«01_k».proof.Proof.Frames
public import proofs.«01_k».proof.Proof.Algebra
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

/-- All the claims, with the facts the programs state. -/
theorem claim : Cert.Claim := ⟨Cert.Kernel.Gen.facts, Cert.KernelIdeal.Gen.facts, Cert.ReferenceIdeal.Gen.facts, Cert.Assumed.pre_facts,
  FrameClaims.frame_p, FrameClaims.frame_pi, FrameClaims.frame_pi_pre, FrameClaims.frame_ri, FrameClaims.frame_ri_pre,
  FrameClaims.preserves, algebraic⟩

end Cert.Proof

end
